-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2048x1024 : Shape := ⟨2, ![2048, 1024]⟩
abbrev S8x256x1024 : Shape := ⟨3, ![8, 256, 1024]⟩
abbrev S6x256x1024 : Shape := ⟨3, ![6, 256, 1024]⟩
abbrev S8 : Shape := ⟨1, ![8]⟩
abbrev S6 : Shape := ⟨1, ![6]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S128x1024 : Shape := ⟨2, ![128, 1024]⟩

abbrev nBuf : Space → Nat
  | .hbm => 2
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S8x256x1024, .bf16⟩
  | .local _ .vmem, ⟨6, _⟩ => ⟨S6x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_12 : BitVec 32 := 8#32
  let v25 : BitVec 32 := Scalar.muli v19 c8_i32_12
  let v26 : BitVec 32 := Scalar.addi c0_i32_13 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v27 : BitVec 32 := Scalar.muli v5 c4_i32_14
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v29 : BitVec 32 := Scalar.muli v8 c1_i32_15
  let v30 : BitVec 32 := Scalar.addi v28 v29
  v30.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v31 : BitVec 32 := Scalar.muli v2 c8_i32_17
  let v32 : BitVec 32 := Scalar.addi c0_i32_18 v31
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_19 : BitVec 32 := 4#32
  let v33 : BitVec 32 := Scalar.muli v20 c4_i32_19
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v35 : BitVec 32 := Scalar.muli v8 c1_i32_20
  let v36 : BitVec 32 := Scalar.addi v34 v35
  v36.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v37 : BitVec 32 := Scalar.muli v2 c8_i32_22
  let v38 : BitVec 32 := Scalar.addi c0_i32_23 v37
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v39 : BitVec 32 := Scalar.muli v5 c4_i32_24
  let v40 : BitVec 32 := Scalar.addi v38 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_25 : BitVec 32 := 1#32
  let v41 : BitVec 32 := Scalar.muli v23 c1_i32_25
  let v42 : BitVec 32 := Scalar.addi v40 v41
  v42.toNat
def k0_cond1 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_26 : BitVec 32 := 0#32
  let v43 : BitVec 1 := Scalar.cmpi .eq v5 c0_i32_26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_27 : BitVec 32 := 0#32
  let v44 : BitVec 1 := Scalar.cmpi .eq v18 c0_i32_27
  let v45 : BitVec 1 := Scalar.andi v43 v44
  let v46 : BitVec 32 := Scalar.extui v45
  let c0_i32_28 : BitVec 32 := 0#32
  let v47 : BitVec 1 := Scalar.cmpi .ne v46 c0_i32_28
  v47

def k0_dev4 (d0 : Dev nD) : Nat :=
  let c0_i32_83 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_82 : BitVec 32 := 8#32
  let v104 : BitVec 32 := Scalar.muli v19 c8_i32_82
  let v105 : BitVec 32 := Scalar.addi c0_i32_83 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v106 : BitVec 32 := Scalar.muli v5 c4_i32_84
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v108 : BitVec 32 := Scalar.muli v8 c1_i32_85
  let v109 : BitVec 32 := Scalar.addi v107 v108
  v109.toNat
def k0_dev5 (d0 : Dev nD) : Nat :=
  let c0_i32_105 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_104 : BitVec 32 := 8#32
  let v128 : BitVec 32 := Scalar.muli v19 c8_i32_104
  let v129 : BitVec 32 := Scalar.addi c0_i32_105 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v130 : BitVec 32 := Scalar.muli v5 c4_i32_106
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v132 : BitVec 32 := Scalar.muli v8 c1_i32_107
  let v133 : BitVec 32 := Scalar.addi v131 v132
  v133.toNat
def k0_dev6 (d0 : Dev nD) : Nat :=
  let c0_i32_127 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_126 : BitVec 32 := 8#32
  let v152 : BitVec 32 := Scalar.muli v19 c8_i32_126
  let v153 : BitVec 32 := Scalar.addi c0_i32_127 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v154 : BitVec 32 := Scalar.muli v5 c4_i32_128
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v156 : BitVec 32 := Scalar.muli v8 c1_i32_129
  let v157 : BitVec 32 := Scalar.addi v155 v156
  v157.toNat
def k0_dev7 (d0 : Dev nD) : Nat :=
  let c0_i32_149 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_148 : BitVec 32 := 8#32
  let v176 : BitVec 32 := Scalar.muli v19 c8_i32_148
  let v177 : BitVec 32 := Scalar.addi c0_i32_149 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_150 : BitVec 32 := 4#32
  let v178 : BitVec 32 := Scalar.muli v5 c4_i32_150
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v180 : BitVec 32 := Scalar.muli v8 c1_i32_151
  let v181 : BitVec 32 := Scalar.addi v179 v180
  v181.toNat
def k0_dev8 (d0 : Dev nD) : Nat :=
  let c0_i32_171 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_170 : BitVec 32 := 8#32
  let v200 : BitVec 32 := Scalar.muli v19 c8_i32_170
  let v201 : BitVec 32 := Scalar.addi c0_i32_171 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_172 : BitVec 32 := 4#32
  let v202 : BitVec 32 := Scalar.muli v5 c4_i32_172
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_173 : BitVec 32 := 1#32
  let v204 : BitVec 32 := Scalar.muli v8 c1_i32_173
  let v205 : BitVec 32 := Scalar.addi v203 v204
  v205.toNat
def k0_dev9 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v239 : BitVec 32 := Scalar.muli v2 c8_i32_203
  let v240 : BitVec 32 := Scalar.addi c0_i32_204 v239
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_205 : BitVec 32 := 4#32
  let v241 : BitVec 32 := Scalar.muli v20 c4_i32_205
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v243 : BitVec 32 := Scalar.muli v8 c1_i32_206
  let v244 : BitVec 32 := Scalar.addi v242 v243
  v244.toNat
def k0_dev10 (d0 : Dev nD) : Nat :=
  let c0_i32_214 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_213 : BitVec 32 := 8#32
  let v251 : BitVec 32 := Scalar.muli v2 c8_i32_213
  let v252 : BitVec 32 := Scalar.addi c0_i32_214 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_215 : BitVec 32 := 4#32
  let v253 : BitVec 32 := Scalar.muli v5 c4_i32_215
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_216 : BitVec 32 := 1#32
  let v255 : BitVec 32 := Scalar.muli v23 c1_i32_216
  let v256 : BitVec 32 := Scalar.addi v254 v255
  v256.toNat
def k0_dev11 (d0 : Dev nD) : Nat :=
  let c0_i32_241 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_240 : BitVec 32 := 8#32
  let v278 : BitVec 32 := Scalar.muli v19 c8_i32_240
  let v279 : BitVec 32 := Scalar.addi c0_i32_241 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_242 : BitVec 32 := 4#32
  let v280 : BitVec 32 := Scalar.muli v5 c4_i32_242
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v282 : BitVec 32 := Scalar.muli v8 c1_i32_243
  let v283 : BitVec 32 := Scalar.addi v281 v282
  v283.toNat
def k0_dev12 (d0 : Dev nD) : Nat :=
  let c0_i32_273 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_272 : BitVec 32 := 8#32
  let v317 : BitVec 32 := Scalar.muli v2 c8_i32_272
  let v318 : BitVec 32 := Scalar.addi c0_i32_273 v317
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_274 : BitVec 32 := 4#32
  let v319 : BitVec 32 := Scalar.muli v20 c4_i32_274
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_275 : BitVec 32 := 1#32
  let v321 : BitVec 32 := Scalar.muli v8 c1_i32_275
  let v322 : BitVec 32 := Scalar.addi v320 v321
  v322.toNat
def k0_dev13 (d0 : Dev nD) : Nat :=
  let c0_i32_283 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_282 : BitVec 32 := 8#32
  let v329 : BitVec 32 := Scalar.muli v2 c8_i32_282
  let v330 : BitVec 32 := Scalar.addi c0_i32_283 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_284 : BitVec 32 := 4#32
  let v331 : BitVec 32 := Scalar.muli v5 c4_i32_284
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_285 : BitVec 32 := 1#32
  let v333 : BitVec 32 := Scalar.muli v23 c1_i32_285
  let v334 : BitVec 32 := Scalar.addi v332 v333
  v334.toNat
def k0_dev14 (d0 : Dev nD) : Nat :=
  let c0_i32_308 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_307 : BitVec 32 := 8#32
  let v355 : BitVec 32 := Scalar.muli v2 c8_i32_307
  let v356 : BitVec 32 := Scalar.addi c0_i32_308 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_309 : BitVec 32 := 4#32
  let v357 : BitVec 32 := Scalar.muli v5 c4_i32_309
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_310 : BitVec 32 := 1#32
  let v359 : BitVec 32 := Scalar.muli v23 c1_i32_310
  let v360 : BitVec 32 := Scalar.addi v358 v359
  v360.toNat
def k0_dev15 (d0 : Dev nD) : Nat :=
  let c0_i32_331 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_330 : BitVec 32 := 8#32
  let v381 : BitVec 32 := Scalar.muli v2 c8_i32_330
  let v382 : BitVec 32 := Scalar.addi c0_i32_331 v381
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_332 : BitVec 32 := 4#32
  let v383 : BitVec 32 := Scalar.muli v20 c4_i32_332
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v385 : BitVec 32 := Scalar.muli v8 c1_i32_333
  let v386 : BitVec 32 := Scalar.addi v384 v385
  v386.toNat
def k0_dev16 (d0 : Dev nD) : Nat :=
  let c0_i32_356 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_355 : BitVec 32 := 8#32
  let v408 : BitVec 32 := Scalar.muli v19 c8_i32_355
  let v409 : BitVec 32 := Scalar.addi c0_i32_356 v408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_357 : BitVec 32 := 4#32
  let v410 : BitVec 32 := Scalar.muli v5 c4_i32_357
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_358 : BitVec 32 := 1#32
  let v412 : BitVec 32 := Scalar.muli v8 c1_i32_358
  let v413 : BitVec 32 := Scalar.addi v411 v412
  v413.toNat
def k0_dev17 (d0 : Dev nD) : Nat :=
  let c0_i32_383 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_382 : BitVec 32 := 8#32
  let v442 : BitVec 32 := Scalar.muli v2 c8_i32_382
  let v443 : BitVec 32 := Scalar.addi c0_i32_383 v442
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_384 : BitVec 32 := 4#32
  let v444 : BitVec 32 := Scalar.muli v20 c4_i32_384
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_385 : BitVec 32 := 1#32
  let v446 : BitVec 32 := Scalar.muli v8 c1_i32_385
  let v447 : BitVec 32 := Scalar.addi v445 v446
  v447.toNat
def k0_dev18 (d0 : Dev nD) : Nat :=
  let c0_i32_393 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_392 : BitVec 32 := 8#32
  let v454 : BitVec 32 := Scalar.muli v2 c8_i32_392
  let v455 : BitVec 32 := Scalar.addi c0_i32_393 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_394 : BitVec 32 := 4#32
  let v456 : BitVec 32 := Scalar.muli v5 c4_i32_394
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_395 : BitVec 32 := 1#32
  let v458 : BitVec 32 := Scalar.muli v23 c1_i32_395
  let v459 : BitVec 32 := Scalar.addi v457 v458
  v459.toNat
def k0_dev19 (d0 : Dev nD) : Nat :=
  let c0_i32_418 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_417 : BitVec 32 := 8#32
  let v480 : BitVec 32 := Scalar.muli v2 c8_i32_417
  let v481 : BitVec 32 := Scalar.addi c0_i32_418 v480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_419 : BitVec 32 := 4#32
  let v482 : BitVec 32 := Scalar.muli v5 c4_i32_419
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_420 : BitVec 32 := 1#32
  let v484 : BitVec 32 := Scalar.muli v23 c1_i32_420
  let v485 : BitVec 32 := Scalar.addi v483 v484
  v485.toNat
def k0_dev20 (d0 : Dev nD) : Nat :=
  let c0_i32_441 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_440 : BitVec 32 := 8#32
  let v506 : BitVec 32 := Scalar.muli v2 c8_i32_440
  let v507 : BitVec 32 := Scalar.addi c0_i32_441 v506
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_442 : BitVec 32 := 4#32
  let v508 : BitVec 32 := Scalar.muli v20 c4_i32_442
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v510 : BitVec 32 := Scalar.muli v8 c1_i32_443
  let v511 : BitVec 32 := Scalar.addi v509 v510
  v511.toNat
def k0_dev21 (d0 : Dev nD) : Nat :=
  let c0_i32_494 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_493 : BitVec 32 := 8#32
  let v561 : BitVec 32 := Scalar.muli v19 c8_i32_493
  let v562 : BitVec 32 := Scalar.addi c0_i32_494 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_495 : BitVec 32 := 4#32
  let v563 : BitVec 32 := Scalar.muli v5 c4_i32_495
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v565 : BitVec 32 := Scalar.muli v8 c1_i32_496
  let v566 : BitVec 32 := Scalar.addi v564 v565
  v566.toNat
def k0_dev22 (d0 : Dev nD) : Nat :=
  let c0_i32_521 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_520 : BitVec 32 := 8#32
  let v595 : BitVec 32 := Scalar.muli v2 c8_i32_520
  let v596 : BitVec 32 := Scalar.addi c0_i32_521 v595
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_522 : BitVec 32 := 4#32
  let v597 : BitVec 32 := Scalar.muli v20 c4_i32_522
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v599 : BitVec 32 := Scalar.muli v8 c1_i32_523
  let v600 : BitVec 32 := Scalar.addi v598 v599
  v600.toNat
def k0_dev23 (d0 : Dev nD) : Nat :=
  let c0_i32_531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_530 : BitVec 32 := 8#32
  let v607 : BitVec 32 := Scalar.muli v2 c8_i32_530
  let v608 : BitVec 32 := Scalar.addi c0_i32_531 v607
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_532 : BitVec 32 := 4#32
  let v609 : BitVec 32 := Scalar.muli v5 c4_i32_532
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_533 : BitVec 32 := 1#32
  let v611 : BitVec 32 := Scalar.muli v23 c1_i32_533
  let v612 : BitVec 32 := Scalar.addi v610 v611
  v612.toNat
def k0_dev24 (d0 : Dev nD) : Nat :=
  let c0_i32_556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_555 : BitVec 32 := 8#32
  let v633 : BitVec 32 := Scalar.muli v2 c8_i32_555
  let v634 : BitVec 32 := Scalar.addi c0_i32_556 v633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_557 : BitVec 32 := 4#32
  let v635 : BitVec 32 := Scalar.muli v5 c4_i32_557
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_558 : BitVec 32 := 1#32
  let v637 : BitVec 32 := Scalar.muli v23 c1_i32_558
  let v638 : BitVec 32 := Scalar.addi v636 v637
  v638.toNat
def k0_dev25 (d0 : Dev nD) : Nat :=
  let c0_i32_579 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_578 : BitVec 32 := 8#32
  let v659 : BitVec 32 := Scalar.muli v2 c8_i32_578
  let v660 : BitVec 32 := Scalar.addi c0_i32_579 v659
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_580 : BitVec 32 := 4#32
  let v661 : BitVec 32 := Scalar.muli v20 c4_i32_580
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_581 : BitVec 32 := 1#32
  let v663 : BitVec 32 := Scalar.muli v8 c1_i32_581
  let v664 : BitVec 32 := Scalar.addi v662 v663
  v664.toNat
def k0_dev26 (d0 : Dev nD) : Nat :=
  let c0_i32_638 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_637 : BitVec 32 := 8#32
  let v724 : BitVec 32 := Scalar.muli v2 c8_i32_637
  let v725 : BitVec 32 := Scalar.addi c0_i32_638 v724
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_639 : BitVec 32 := 4#32
  let v726 : BitVec 32 := Scalar.muli v20 c4_i32_639
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v728 : BitVec 32 := Scalar.muli v8 c1_i32_640
  let v729 : BitVec 32 := Scalar.addi v727 v728
  v729.toNat
def k0_dev27 (d0 : Dev nD) : Nat :=
  let c0_i32_648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_647 : BitVec 32 := 8#32
  let v736 : BitVec 32 := Scalar.muli v2 c8_i32_647
  let v737 : BitVec 32 := Scalar.addi c0_i32_648 v736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_649 : BitVec 32 := 4#32
  let v738 : BitVec 32 := Scalar.muli v5 c4_i32_649
  let v739 : BitVec 32 := Scalar.addi v737 v738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_650 : BitVec 32 := 1#32
  let v740 : BitVec 32 := Scalar.muli v23 c1_i32_650
  let v741 : BitVec 32 := Scalar.addi v739 v740
  v741.toNat
def k0_dev28 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v762 : BitVec 32 := Scalar.muli v2 c8_i32_672
  let v763 : BitVec 32 := Scalar.addi c0_i32_673 v762
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v764 : BitVec 32 := Scalar.muli v5 c4_i32_674
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_675 : BitVec 32 := 1#32
  let v766 : BitVec 32 := Scalar.muli v23 c1_i32_675
  let v767 : BitVec 32 := Scalar.addi v765 v766
  v767.toNat
def k0_dev29 (d0 : Dev nD) : Nat :=
  let c0_i32_696 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_695 : BitVec 32 := 8#32
  let v788 : BitVec 32 := Scalar.muli v2 c8_i32_695
  let v789 : BitVec 32 := Scalar.addi c0_i32_696 v788
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_697 : BitVec 32 := 4#32
  let v790 : BitVec 32 := Scalar.muli v20 c4_i32_697
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_698 : BitVec 32 := 1#32
  let v792 : BitVec 32 := Scalar.muli v8 c1_i32_698
  let v793 : BitVec 32 := Scalar.addi v791 v792
  v793.toNat
def k0_dev30 (d0 : Dev nD) : Nat :=
  let c0_i32_755 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_754 : BitVec 32 := 8#32
  let v853 : BitVec 32 := Scalar.muli v2 c8_i32_754
  let v854 : BitVec 32 := Scalar.addi c0_i32_755 v853
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_756 : BitVec 32 := 4#32
  let v855 : BitVec 32 := Scalar.muli v20 c4_i32_756
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_757 : BitVec 32 := 1#32
  let v857 : BitVec 32 := Scalar.muli v8 c1_i32_757
  let v858 : BitVec 32 := Scalar.addi v856 v857
  v858.toNat
def k0_dev31 (d0 : Dev nD) : Nat :=
  let c0_i32_765 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_764 : BitVec 32 := 8#32
  let v865 : BitVec 32 := Scalar.muli v2 c8_i32_764
  let v866 : BitVec 32 := Scalar.addi c0_i32_765 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_766 : BitVec 32 := 4#32
  let v867 : BitVec 32 := Scalar.muli v5 c4_i32_766
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_767 : BitVec 32 := 1#32
  let v869 : BitVec 32 := Scalar.muli v23 c1_i32_767
  let v870 : BitVec 32 := Scalar.addi v868 v869
  v870.toNat
def k0_dev32 (d0 : Dev nD) : Nat :=
  let c0_i32_790 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_789 : BitVec 32 := 8#32
  let v891 : BitVec 32 := Scalar.muli v2 c8_i32_789
  let v892 : BitVec 32 := Scalar.addi c0_i32_790 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_791 : BitVec 32 := 4#32
  let v893 : BitVec 32 := Scalar.muli v5 c4_i32_791
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_792 : BitVec 32 := 1#32
  let v895 : BitVec 32 := Scalar.muli v23 c1_i32_792
  let v896 : BitVec 32 := Scalar.addi v894 v895
  v896.toNat
def k0_dev33 (d0 : Dev nD) : Nat :=
  let c0_i32_813 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_812 : BitVec 32 := 8#32
  let v917 : BitVec 32 := Scalar.muli v2 c8_i32_812
  let v918 : BitVec 32 := Scalar.addi c0_i32_813 v917
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_814 : BitVec 32 := 4#32
  let v919 : BitVec 32 := Scalar.muli v20 c4_i32_814
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_815 : BitVec 32 := 1#32
  let v921 : BitVec 32 := Scalar.muli v8 c1_i32_815
  let v922 : BitVec 32 := Scalar.addi v920 v921
  v922.toNat
def k0_dev34 (d0 : Dev nD) : Nat :=
  let c0_i32_872 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_871 : BitVec 32 := 8#32
  let v982 : BitVec 32 := Scalar.muli v2 c8_i32_871
  let v983 : BitVec 32 := Scalar.addi c0_i32_872 v982
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_873 : BitVec 32 := 4#32
  let v984 : BitVec 32 := Scalar.muli v20 c4_i32_873
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v986 : BitVec 32 := Scalar.muli v8 c1_i32_874
  let v987 : BitVec 32 := Scalar.addi v985 v986
  v987.toNat
def k0_dev35 (d0 : Dev nD) : Nat :=
  let c0_i32_882 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_881 : BitVec 32 := 8#32
  let v994 : BitVec 32 := Scalar.muli v2 c8_i32_881
  let v995 : BitVec 32 := Scalar.addi c0_i32_882 v994
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v996 : BitVec 32 := Scalar.muli v5 c4_i32_883
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_884 : BitVec 32 := 1#32
  let v998 : BitVec 32 := Scalar.muli v23 c1_i32_884
  let v999 : BitVec 32 := Scalar.addi v997 v998
  v999.toNat
def k0_dev36 (d0 : Dev nD) : Nat :=
  let c0_i32_907 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_906 : BitVec 32 := 8#32
  let v1020 : BitVec 32 := Scalar.muli v2 c8_i32_906
  let v1021 : BitVec 32 := Scalar.addi c0_i32_907 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_908 : BitVec 32 := 4#32
  let v1022 : BitVec 32 := Scalar.muli v5 c4_i32_908
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_909 : BitVec 32 := 1#32
  let v1024 : BitVec 32 := Scalar.muli v23 c1_i32_909
  let v1025 : BitVec 32 := Scalar.addi v1023 v1024
  v1025.toNat
def k0_dev37 (d0 : Dev nD) : Nat :=
  let c0_i32_930 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_929 : BitVec 32 := 8#32
  let v1046 : BitVec 32 := Scalar.muli v2 c8_i32_929
  let v1047 : BitVec 32 := Scalar.addi c0_i32_930 v1046
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_931 : BitVec 32 := 4#32
  let v1048 : BitVec 32 := Scalar.muli v20 c4_i32_931
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_932 : BitVec 32 := 1#32
  let v1050 : BitVec 32 := Scalar.muli v8 c1_i32_932
  let v1051 : BitVec 32 := Scalar.addi v1049 v1050
  v1051.toNat
def k0_dev38 (d0 : Dev nD) : Nat :=
  let c0_i32_989 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_988 : BitVec 32 := 8#32
  let v1111 : BitVec 32 := Scalar.muli v2 c8_i32_988
  let v1112 : BitVec 32 := Scalar.addi c0_i32_989 v1111
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_990 : BitVec 32 := 4#32
  let v1113 : BitVec 32 := Scalar.muli v20 c4_i32_990
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1115 : BitVec 32 := Scalar.muli v8 c1_i32_991
  let v1116 : BitVec 32 := Scalar.addi v1114 v1115
  v1116.toNat
def k0_dev39 (d0 : Dev nD) : Nat :=
  let c0_i32_999 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_998 : BitVec 32 := 8#32
  let v1123 : BitVec 32 := Scalar.muli v2 c8_i32_998
  let v1124 : BitVec 32 := Scalar.addi c0_i32_999 v1123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1000 : BitVec 32 := 4#32
  let v1125 : BitVec 32 := Scalar.muli v5 c4_i32_1000
  let v1126 : BitVec 32 := Scalar.addi v1124 v1125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1001 : BitVec 32 := 1#32
  let v1127 : BitVec 32 := Scalar.muli v23 c1_i32_1001
  let v1128 : BitVec 32 := Scalar.addi v1126 v1127
  v1128.toNat
def k0_dev40 (d0 : Dev nD) : Nat :=
  let c0_i32_1024 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1023 : BitVec 32 := 8#32
  let v1149 : BitVec 32 := Scalar.muli v2 c8_i32_1023
  let v1150 : BitVec 32 := Scalar.addi c0_i32_1024 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1025 : BitVec 32 := 4#32
  let v1151 : BitVec 32 := Scalar.muli v5 c4_i32_1025
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1026 : BitVec 32 := 1#32
  let v1153 : BitVec 32 := Scalar.muli v23 c1_i32_1026
  let v1154 : BitVec 32 := Scalar.addi v1152 v1153
  v1154.toNat
def k0_dev41 (d0 : Dev nD) : Nat :=
  let c0_i32_1047 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1046 : BitVec 32 := 8#32
  let v1175 : BitVec 32 := Scalar.muli v2 c8_i32_1046
  let v1176 : BitVec 32 := Scalar.addi c0_i32_1047 v1175
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1048 : BitVec 32 := 4#32
  let v1177 : BitVec 32 := Scalar.muli v20 c4_i32_1048
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v1179 : BitVec 32 := Scalar.muli v8 c1_i32_1049
  let v1180 : BitVec 32 := Scalar.addi v1178 v1179
  v1180.toNat
def k0_dev42 (d0 : Dev nD) : Nat :=
  let c0_i32_1099 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1098 : BitVec 32 := 8#32
  let v1229 : BitVec 32 := Scalar.muli v2 c8_i32_1098
  let v1230 : BitVec 32 := Scalar.addi c0_i32_1099 v1229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1100 : BitVec 32 := 4#32
  let v1231 : BitVec 32 := Scalar.muli v5 c4_i32_1100
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1101 : BitVec 32 := 1#32
  let v1233 : BitVec 32 := Scalar.muli v23 c1_i32_1101
  let v1234 : BitVec 32 := Scalar.addi v1232 v1233
  v1234.toNat
def k0_dev43 (d0 : Dev nD) : Nat :=
  let c0_i32_1122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1121 : BitVec 32 := 8#32
  let v1255 : BitVec 32 := Scalar.muli v2 c8_i32_1121
  let v1256 : BitVec 32 := Scalar.addi c0_i32_1122 v1255
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1123 : BitVec 32 := 4#32
  let v1257 : BitVec 32 := Scalar.muli v20 c4_i32_1123
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1124 : BitVec 32 := 1#32
  let v1259 : BitVec 32 := Scalar.muli v8 c1_i32_1124
  let v1260 : BitVec 32 := Scalar.addi v1258 v1259
  v1260.toNat
def k0_cond2 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_29 : BitVec 32 := 0#32
  let v48 : BitVec 1 := Scalar.cmpi .eq v5 c0_i32_29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_30 : BitVec 32 := 1#32
  let v49 : BitVec 1 := Scalar.cmpi .eq v18 c1_i32_30
  let v50 : BitVec 1 := Scalar.andi v48 v49
  let v51 : BitVec 32 := Scalar.extui v50
  let c0_i32_31 : BitVec 32 := 0#32
  let v52 : BitVec 1 := Scalar.cmpi .ne v51 c0_i32_31
  v52

def k0_dev44 (d0 : Dev nD) : Nat :=
  let c0_i32_82 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_81 : BitVec 32 := 8#32
  let v104 : BitVec 32 := Scalar.muli v19 c8_i32_81
  let v105 : BitVec 32 := Scalar.addi c0_i32_82 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v106 : BitVec 32 := Scalar.muli v5 c4_i32_83
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v108 : BitVec 32 := Scalar.muli v8 c1_i32_84
  let v109 : BitVec 32 := Scalar.addi v107 v108
  v109.toNat
def k0_dev45 (d0 : Dev nD) : Nat :=
  let c0_i32_104 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_103 : BitVec 32 := 8#32
  let v128 : BitVec 32 := Scalar.muli v19 c8_i32_103
  let v129 : BitVec 32 := Scalar.addi c0_i32_104 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v130 : BitVec 32 := Scalar.muli v5 c4_i32_105
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v132 : BitVec 32 := Scalar.muli v8 c1_i32_106
  let v133 : BitVec 32 := Scalar.addi v131 v132
  v133.toNat
def k0_dev46 (d0 : Dev nD) : Nat :=
  let c0_i32_125 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_124 : BitVec 32 := 8#32
  let v152 : BitVec 32 := Scalar.muli v19 c8_i32_124
  let v153 : BitVec 32 := Scalar.addi c0_i32_125 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v154 : BitVec 32 := Scalar.muli v5 c4_i32_126
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v156 : BitVec 32 := Scalar.muli v8 c1_i32_127
  let v157 : BitVec 32 := Scalar.addi v155 v156
  v157.toNat
def k0_dev47 (d0 : Dev nD) : Nat :=
  let c0_i32_146 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_145 : BitVec 32 := 8#32
  let v176 : BitVec 32 := Scalar.muli v19 c8_i32_145
  let v177 : BitVec 32 := Scalar.addi c0_i32_146 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v178 : BitVec 32 := Scalar.muli v5 c4_i32_147
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v180 : BitVec 32 := Scalar.muli v8 c1_i32_148
  let v181 : BitVec 32 := Scalar.addi v179 v180
  v181.toNat
def k0_dev48 (d0 : Dev nD) : Nat :=
  let c0_i32_167 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_166 : BitVec 32 := 8#32
  let v200 : BitVec 32 := Scalar.muli v19 c8_i32_166
  let v201 : BitVec 32 := Scalar.addi c0_i32_167 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_168 : BitVec 32 := 4#32
  let v202 : BitVec 32 := Scalar.muli v5 c4_i32_168
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v204 : BitVec 32 := Scalar.muli v8 c1_i32_169
  let v205 : BitVec 32 := Scalar.addi v203 v204
  v205.toNat
def k0_dev49 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v239 : BitVec 32 := Scalar.muli v2 c8_i32_198
  let v240 : BitVec 32 := Scalar.addi c0_i32_199 v239
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_200 : BitVec 32 := 4#32
  let v241 : BitVec 32 := Scalar.muli v20 c4_i32_200
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v243 : BitVec 32 := Scalar.muli v8 c1_i32_201
  let v244 : BitVec 32 := Scalar.addi v242 v243
  v244.toNat
def k0_dev50 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v251 : BitVec 32 := Scalar.muli v2 c8_i32_208
  let v252 : BitVec 32 := Scalar.addi c0_i32_209 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v253 : BitVec 32 := Scalar.muli v5 c4_i32_210
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_211 : BitVec 32 := 1#32
  let v255 : BitVec 32 := Scalar.muli v23 c1_i32_211
  let v256 : BitVec 32 := Scalar.addi v254 v255
  v256.toNat
def k0_dev51 (d0 : Dev nD) : Nat :=
  let c0_i32_236 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_235 : BitVec 32 := 8#32
  let v278 : BitVec 32 := Scalar.muli v19 c8_i32_235
  let v279 : BitVec 32 := Scalar.addi c0_i32_236 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_237 : BitVec 32 := 4#32
  let v280 : BitVec 32 := Scalar.muli v5 c4_i32_237
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v282 : BitVec 32 := Scalar.muli v8 c1_i32_238
  let v283 : BitVec 32 := Scalar.addi v281 v282
  v283.toNat
def k0_dev52 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v317 : BitVec 32 := Scalar.muli v2 c8_i32_266
  let v318 : BitVec 32 := Scalar.addi c0_i32_267 v317
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_268 : BitVec 32 := 4#32
  let v319 : BitVec 32 := Scalar.muli v20 c4_i32_268
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v321 : BitVec 32 := Scalar.muli v8 c1_i32_269
  let v322 : BitVec 32 := Scalar.addi v320 v321
  v322.toNat
def k0_dev53 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v329 : BitVec 32 := Scalar.muli v2 c8_i32_276
  let v330 : BitVec 32 := Scalar.addi c0_i32_277 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v331 : BitVec 32 := Scalar.muli v5 c4_i32_278
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_279 : BitVec 32 := 1#32
  let v333 : BitVec 32 := Scalar.muli v23 c1_i32_279
  let v334 : BitVec 32 := Scalar.addi v332 v333
  v334.toNat
def k0_dev54 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v355 : BitVec 32 := Scalar.muli v2 c8_i32_301
  let v356 : BitVec 32 := Scalar.addi c0_i32_302 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v357 : BitVec 32 := Scalar.muli v5 c4_i32_303
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_304 : BitVec 32 := 1#32
  let v359 : BitVec 32 := Scalar.muli v23 c1_i32_304
  let v360 : BitVec 32 := Scalar.addi v358 v359
  v360.toNat
def k0_dev55 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v381 : BitVec 32 := Scalar.muli v2 c8_i32_324
  let v382 : BitVec 32 := Scalar.addi c0_i32_325 v381
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_326 : BitVec 32 := 4#32
  let v383 : BitVec 32 := Scalar.muli v20 c4_i32_326
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v385 : BitVec 32 := Scalar.muli v8 c1_i32_327
  let v386 : BitVec 32 := Scalar.addi v384 v385
  v386.toNat
def k0_dev56 (d0 : Dev nD) : Nat :=
  let c0_i32_351 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_350 : BitVec 32 := 8#32
  let v408 : BitVec 32 := Scalar.muli v19 c8_i32_350
  let v409 : BitVec 32 := Scalar.addi c0_i32_351 v408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_352 : BitVec 32 := 4#32
  let v410 : BitVec 32 := Scalar.muli v5 c4_i32_352
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v412 : BitVec 32 := Scalar.muli v8 c1_i32_353
  let v413 : BitVec 32 := Scalar.addi v411 v412
  v413.toNat
def k0_dev57 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v442 : BitVec 32 := Scalar.muli v2 c8_i32_376
  let v443 : BitVec 32 := Scalar.addi c0_i32_377 v442
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_378 : BitVec 32 := 4#32
  let v444 : BitVec 32 := Scalar.muli v20 c4_i32_378
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v446 : BitVec 32 := Scalar.muli v8 c1_i32_379
  let v447 : BitVec 32 := Scalar.addi v445 v446
  v447.toNat
def k0_dev58 (d0 : Dev nD) : Nat :=
  let c0_i32_387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_386 : BitVec 32 := 8#32
  let v454 : BitVec 32 := Scalar.muli v2 c8_i32_386
  let v455 : BitVec 32 := Scalar.addi c0_i32_387 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v456 : BitVec 32 := Scalar.muli v5 c4_i32_388
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_389 : BitVec 32 := 1#32
  let v458 : BitVec 32 := Scalar.muli v23 c1_i32_389
  let v459 : BitVec 32 := Scalar.addi v457 v458
  v459.toNat
def k0_dev59 (d0 : Dev nD) : Nat :=
  let c0_i32_412 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_411 : BitVec 32 := 8#32
  let v480 : BitVec 32 := Scalar.muli v2 c8_i32_411
  let v481 : BitVec 32 := Scalar.addi c0_i32_412 v480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_413 : BitVec 32 := 4#32
  let v482 : BitVec 32 := Scalar.muli v5 c4_i32_413
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_414 : BitVec 32 := 1#32
  let v484 : BitVec 32 := Scalar.muli v23 c1_i32_414
  let v485 : BitVec 32 := Scalar.addi v483 v484
  v485.toNat
def k0_dev60 (d0 : Dev nD) : Nat :=
  let c0_i32_435 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_434 : BitVec 32 := 8#32
  let v506 : BitVec 32 := Scalar.muli v2 c8_i32_434
  let v507 : BitVec 32 := Scalar.addi c0_i32_435 v506
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_436 : BitVec 32 := 4#32
  let v508 : BitVec 32 := Scalar.muli v20 c4_i32_436
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_437 : BitVec 32 := 1#32
  let v510 : BitVec 32 := Scalar.muli v8 c1_i32_437
  let v511 : BitVec 32 := Scalar.addi v509 v510
  v511.toNat
def k0_dev61 (d0 : Dev nD) : Nat :=
  let c0_i32_489 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_488 : BitVec 32 := 8#32
  let v561 : BitVec 32 := Scalar.muli v19 c8_i32_488
  let v562 : BitVec 32 := Scalar.addi c0_i32_489 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_490 : BitVec 32 := 4#32
  let v563 : BitVec 32 := Scalar.muli v5 c4_i32_490
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v565 : BitVec 32 := Scalar.muli v8 c1_i32_491
  let v566 : BitVec 32 := Scalar.addi v564 v565
  v566.toNat
def k0_dev62 (d0 : Dev nD) : Nat :=
  let c0_i32_515 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_514 : BitVec 32 := 8#32
  let v595 : BitVec 32 := Scalar.muli v2 c8_i32_514
  let v596 : BitVec 32 := Scalar.addi c0_i32_515 v595
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_516 : BitVec 32 := 4#32
  let v597 : BitVec 32 := Scalar.muli v20 c4_i32_516
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v599 : BitVec 32 := Scalar.muli v8 c1_i32_517
  let v600 : BitVec 32 := Scalar.addi v598 v599
  v600.toNat
def k0_dev63 (d0 : Dev nD) : Nat :=
  let c0_i32_525 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_524 : BitVec 32 := 8#32
  let v607 : BitVec 32 := Scalar.muli v2 c8_i32_524
  let v608 : BitVec 32 := Scalar.addi c0_i32_525 v607
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_526 : BitVec 32 := 4#32
  let v609 : BitVec 32 := Scalar.muli v5 c4_i32_526
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_527 : BitVec 32 := 1#32
  let v611 : BitVec 32 := Scalar.muli v23 c1_i32_527
  let v612 : BitVec 32 := Scalar.addi v610 v611
  v612.toNat
def k0_dev64 (d0 : Dev nD) : Nat :=
  let c0_i32_550 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_549 : BitVec 32 := 8#32
  let v633 : BitVec 32 := Scalar.muli v2 c8_i32_549
  let v634 : BitVec 32 := Scalar.addi c0_i32_550 v633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_551 : BitVec 32 := 4#32
  let v635 : BitVec 32 := Scalar.muli v5 c4_i32_551
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_552 : BitVec 32 := 1#32
  let v637 : BitVec 32 := Scalar.muli v23 c1_i32_552
  let v638 : BitVec 32 := Scalar.addi v636 v637
  v638.toNat
def k0_dev65 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_572 : BitVec 32 := 8#32
  let v659 : BitVec 32 := Scalar.muli v2 c8_i32_572
  let v660 : BitVec 32 := Scalar.addi c0_i32_573 v659
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_574 : BitVec 32 := 4#32
  let v661 : BitVec 32 := Scalar.muli v20 c4_i32_574
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v663 : BitVec 32 := Scalar.muli v8 c1_i32_575
  let v664 : BitVec 32 := Scalar.addi v662 v663
  v664.toNat
def k0_dev66 (d0 : Dev nD) : Nat :=
  let c0_i32_633 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_632 : BitVec 32 := 8#32
  let v724 : BitVec 32 := Scalar.muli v2 c8_i32_632
  let v725 : BitVec 32 := Scalar.addi c0_i32_633 v724
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_634 : BitVec 32 := 4#32
  let v726 : BitVec 32 := Scalar.muli v20 c4_i32_634
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_635 : BitVec 32 := 1#32
  let v728 : BitVec 32 := Scalar.muli v8 c1_i32_635
  let v729 : BitVec 32 := Scalar.addi v727 v728
  v729.toNat
def k0_dev67 (d0 : Dev nD) : Nat :=
  let c0_i32_643 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_642 : BitVec 32 := 8#32
  let v736 : BitVec 32 := Scalar.muli v2 c8_i32_642
  let v737 : BitVec 32 := Scalar.addi c0_i32_643 v736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644 : BitVec 32 := 4#32
  let v738 : BitVec 32 := Scalar.muli v5 c4_i32_644
  let v739 : BitVec 32 := Scalar.addi v737 v738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_645 : BitVec 32 := 1#32
  let v740 : BitVec 32 := Scalar.muli v23 c1_i32_645
  let v741 : BitVec 32 := Scalar.addi v739 v740
  v741.toNat
def k0_dev68 (d0 : Dev nD) : Nat :=
  let c0_i32_668 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_667 : BitVec 32 := 8#32
  let v762 : BitVec 32 := Scalar.muli v2 c8_i32_667
  let v763 : BitVec 32 := Scalar.addi c0_i32_668 v762
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_669 : BitVec 32 := 4#32
  let v764 : BitVec 32 := Scalar.muli v5 c4_i32_669
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_670 : BitVec 32 := 1#32
  let v766 : BitVec 32 := Scalar.muli v23 c1_i32_670
  let v767 : BitVec 32 := Scalar.addi v765 v766
  v767.toNat
def k0_dev69 (d0 : Dev nD) : Nat :=
  let c0_i32_691 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_690 : BitVec 32 := 8#32
  let v788 : BitVec 32 := Scalar.muli v2 c8_i32_690
  let v789 : BitVec 32 := Scalar.addi c0_i32_691 v788
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_692 : BitVec 32 := 4#32
  let v790 : BitVec 32 := Scalar.muli v20 c4_i32_692
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_693 : BitVec 32 := 1#32
  let v792 : BitVec 32 := Scalar.muli v8 c1_i32_693
  let v793 : BitVec 32 := Scalar.addi v791 v792
  v793.toNat
def k0_dev70 (d0 : Dev nD) : Nat :=
  let c0_i32_751 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_750 : BitVec 32 := 8#32
  let v853 : BitVec 32 := Scalar.muli v2 c8_i32_750
  let v854 : BitVec 32 := Scalar.addi c0_i32_751 v853
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_752 : BitVec 32 := 4#32
  let v855 : BitVec 32 := Scalar.muli v20 c4_i32_752
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_753 : BitVec 32 := 1#32
  let v857 : BitVec 32 := Scalar.muli v8 c1_i32_753
  let v858 : BitVec 32 := Scalar.addi v856 v857
  v858.toNat
def k0_dev71 (d0 : Dev nD) : Nat :=
  let c0_i32_761 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_760 : BitVec 32 := 8#32
  let v865 : BitVec 32 := Scalar.muli v2 c8_i32_760
  let v866 : BitVec 32 := Scalar.addi c0_i32_761 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_762 : BitVec 32 := 4#32
  let v867 : BitVec 32 := Scalar.muli v5 c4_i32_762
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_763 : BitVec 32 := 1#32
  let v869 : BitVec 32 := Scalar.muli v23 c1_i32_763
  let v870 : BitVec 32 := Scalar.addi v868 v869
  v870.toNat
def k0_dev72 (d0 : Dev nD) : Nat :=
  let c0_i32_786 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_785 : BitVec 32 := 8#32
  let v891 : BitVec 32 := Scalar.muli v2 c8_i32_785
  let v892 : BitVec 32 := Scalar.addi c0_i32_786 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_787 : BitVec 32 := 4#32
  let v893 : BitVec 32 := Scalar.muli v5 c4_i32_787
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_788 : BitVec 32 := 1#32
  let v895 : BitVec 32 := Scalar.muli v23 c1_i32_788
  let v896 : BitVec 32 := Scalar.addi v894 v895
  v896.toNat
def k0_dev73 (d0 : Dev nD) : Nat :=
  let c0_i32_809 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_808 : BitVec 32 := 8#32
  let v917 : BitVec 32 := Scalar.muli v2 c8_i32_808
  let v918 : BitVec 32 := Scalar.addi c0_i32_809 v917
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_810 : BitVec 32 := 4#32
  let v919 : BitVec 32 := Scalar.muli v20 c4_i32_810
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_811 : BitVec 32 := 1#32
  let v921 : BitVec 32 := Scalar.muli v8 c1_i32_811
  let v922 : BitVec 32 := Scalar.addi v920 v921
  v922.toNat
def k0_dev74 (d0 : Dev nD) : Nat :=
  let c0_i32_869 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_868 : BitVec 32 := 8#32
  let v982 : BitVec 32 := Scalar.muli v2 c8_i32_868
  let v983 : BitVec 32 := Scalar.addi c0_i32_869 v982
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_870 : BitVec 32 := 4#32
  let v984 : BitVec 32 := Scalar.muli v20 c4_i32_870
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_871 : BitVec 32 := 1#32
  let v986 : BitVec 32 := Scalar.muli v8 c1_i32_871
  let v987 : BitVec 32 := Scalar.addi v985 v986
  v987.toNat
def k0_dev75 (d0 : Dev nD) : Nat :=
  let c0_i32_879 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_878 : BitVec 32 := 8#32
  let v994 : BitVec 32 := Scalar.muli v2 c8_i32_878
  let v995 : BitVec 32 := Scalar.addi c0_i32_879 v994
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_880 : BitVec 32 := 4#32
  let v996 : BitVec 32 := Scalar.muli v5 c4_i32_880
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_881 : BitVec 32 := 1#32
  let v998 : BitVec 32 := Scalar.muli v23 c1_i32_881
  let v999 : BitVec 32 := Scalar.addi v997 v998
  v999.toNat
def k0_dev76 (d0 : Dev nD) : Nat :=
  let c0_i32_904 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_903 : BitVec 32 := 8#32
  let v1020 : BitVec 32 := Scalar.muli v2 c8_i32_903
  let v1021 : BitVec 32 := Scalar.addi c0_i32_904 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_905 : BitVec 32 := 4#32
  let v1022 : BitVec 32 := Scalar.muli v5 c4_i32_905
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_906 : BitVec 32 := 1#32
  let v1024 : BitVec 32 := Scalar.muli v23 c1_i32_906
  let v1025 : BitVec 32 := Scalar.addi v1023 v1024
  v1025.toNat
def k0_dev77 (d0 : Dev nD) : Nat :=
  let c0_i32_927 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_926 : BitVec 32 := 8#32
  let v1046 : BitVec 32 := Scalar.muli v2 c8_i32_926
  let v1047 : BitVec 32 := Scalar.addi c0_i32_927 v1046
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_928 : BitVec 32 := 4#32
  let v1048 : BitVec 32 := Scalar.muli v20 c4_i32_928
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_929 : BitVec 32 := 1#32
  let v1050 : BitVec 32 := Scalar.muli v8 c1_i32_929
  let v1051 : BitVec 32 := Scalar.addi v1049 v1050
  v1051.toNat
def k0_dev78 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1111 : BitVec 32 := Scalar.muli v2 c8_i32_986
  let v1112 : BitVec 32 := Scalar.addi c0_i32_987 v1111
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_988 : BitVec 32 := 4#32
  let v1113 : BitVec 32 := Scalar.muli v20 c4_i32_988
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1115 : BitVec 32 := Scalar.muli v8 c1_i32_989
  let v1116 : BitVec 32 := Scalar.addi v1114 v1115
  v1116.toNat
def k0_dev79 (d0 : Dev nD) : Nat :=
  let c0_i32_997 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_996 : BitVec 32 := 8#32
  let v1123 : BitVec 32 := Scalar.muli v2 c8_i32_996
  let v1124 : BitVec 32 := Scalar.addi c0_i32_997 v1123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_998 : BitVec 32 := 4#32
  let v1125 : BitVec 32 := Scalar.muli v5 c4_i32_998
  let v1126 : BitVec 32 := Scalar.addi v1124 v1125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_999 : BitVec 32 := 1#32
  let v1127 : BitVec 32 := Scalar.muli v23 c1_i32_999
  let v1128 : BitVec 32 := Scalar.addi v1126 v1127
  v1128.toNat
def k0_dev80 (d0 : Dev nD) : Nat :=
  let c0_i32_1022 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1021 : BitVec 32 := 8#32
  let v1149 : BitVec 32 := Scalar.muli v2 c8_i32_1021
  let v1150 : BitVec 32 := Scalar.addi c0_i32_1022 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1023 : BitVec 32 := 4#32
  let v1151 : BitVec 32 := Scalar.muli v5 c4_i32_1023
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1024 : BitVec 32 := 1#32
  let v1153 : BitVec 32 := Scalar.muli v23 c1_i32_1024
  let v1154 : BitVec 32 := Scalar.addi v1152 v1153
  v1154.toNat
def k0_dev81 (d0 : Dev nD) : Nat :=
  let c0_i32_1045 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1044 : BitVec 32 := 8#32
  let v1175 : BitVec 32 := Scalar.muli v2 c8_i32_1044
  let v1176 : BitVec 32 := Scalar.addi c0_i32_1045 v1175
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1046 : BitVec 32 := 4#32
  let v1177 : BitVec 32 := Scalar.muli v20 c4_i32_1046
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1047 : BitVec 32 := 1#32
  let v1179 : BitVec 32 := Scalar.muli v8 c1_i32_1047
  let v1180 : BitVec 32 := Scalar.addi v1178 v1179
  v1180.toNat
def k0_dev82 (d0 : Dev nD) : Nat :=
  let c0_i32_1098 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1097 : BitVec 32 := 8#32
  let v1229 : BitVec 32 := Scalar.muli v2 c8_i32_1097
  let v1230 : BitVec 32 := Scalar.addi c0_i32_1098 v1229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1099 : BitVec 32 := 4#32
  let v1231 : BitVec 32 := Scalar.muli v5 c4_i32_1099
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1100 : BitVec 32 := 1#32
  let v1233 : BitVec 32 := Scalar.muli v23 c1_i32_1100
  let v1234 : BitVec 32 := Scalar.addi v1232 v1233
  v1234.toNat
def k0_dev83 (d0 : Dev nD) : Nat :=
  let c0_i32_1121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1120 : BitVec 32 := 8#32
  let v1255 : BitVec 32 := Scalar.muli v2 c8_i32_1120
  let v1256 : BitVec 32 := Scalar.addi c0_i32_1121 v1255
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1122 : BitVec 32 := 4#32
  let v1257 : BitVec 32 := Scalar.muli v20 c4_i32_1122
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1123 : BitVec 32 := 1#32
  let v1259 : BitVec 32 := Scalar.muli v8 c1_i32_1123
  let v1260 : BitVec 32 := Scalar.addi v1258 v1259
  v1260.toNat
def k0_cond3 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_32 : BitVec 32 := 1#32
  let v53 : BitVec 1 := Scalar.cmpi .eq v5 c1_i32_32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_33 : BitVec 32 := 0#32
  let v54 : BitVec 1 := Scalar.cmpi .eq v18 c0_i32_33
  let v55 : BitVec 1 := Scalar.andi v53 v54
  let v56 : BitVec 32 := Scalar.extui v55
  let c0_i32_34 : BitVec 32 := 0#32
  let v57 : BitVec 1 := Scalar.cmpi .ne v56 c0_i32_34
  v57

def k0_dev84 (d0 : Dev nD) : Nat :=
  let c0_i32_82 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_81 : BitVec 32 := 8#32
  let v104 : BitVec 32 := Scalar.muli v19 c8_i32_81
  let v105 : BitVec 32 := Scalar.addi c0_i32_82 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v106 : BitVec 32 := Scalar.muli v5 c4_i32_83
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v108 : BitVec 32 := Scalar.muli v8 c1_i32_84
  let v109 : BitVec 32 := Scalar.addi v107 v108
  v109.toNat
def k0_dev85 (d0 : Dev nD) : Nat :=
  let c0_i32_104 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_103 : BitVec 32 := 8#32
  let v128 : BitVec 32 := Scalar.muli v19 c8_i32_103
  let v129 : BitVec 32 := Scalar.addi c0_i32_104 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v130 : BitVec 32 := Scalar.muli v5 c4_i32_105
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v132 : BitVec 32 := Scalar.muli v8 c1_i32_106
  let v133 : BitVec 32 := Scalar.addi v131 v132
  v133.toNat
def k0_dev86 (d0 : Dev nD) : Nat :=
  let c0_i32_125 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_124 : BitVec 32 := 8#32
  let v152 : BitVec 32 := Scalar.muli v19 c8_i32_124
  let v153 : BitVec 32 := Scalar.addi c0_i32_125 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v154 : BitVec 32 := Scalar.muli v5 c4_i32_126
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v156 : BitVec 32 := Scalar.muli v8 c1_i32_127
  let v157 : BitVec 32 := Scalar.addi v155 v156
  v157.toNat
def k0_dev87 (d0 : Dev nD) : Nat :=
  let c0_i32_146 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_145 : BitVec 32 := 8#32
  let v176 : BitVec 32 := Scalar.muli v19 c8_i32_145
  let v177 : BitVec 32 := Scalar.addi c0_i32_146 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v178 : BitVec 32 := Scalar.muli v5 c4_i32_147
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v180 : BitVec 32 := Scalar.muli v8 c1_i32_148
  let v181 : BitVec 32 := Scalar.addi v179 v180
  v181.toNat
def k0_dev88 (d0 : Dev nD) : Nat :=
  let c0_i32_167 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_166 : BitVec 32 := 8#32
  let v200 : BitVec 32 := Scalar.muli v19 c8_i32_166
  let v201 : BitVec 32 := Scalar.addi c0_i32_167 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_168 : BitVec 32 := 4#32
  let v202 : BitVec 32 := Scalar.muli v5 c4_i32_168
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v204 : BitVec 32 := Scalar.muli v8 c1_i32_169
  let v205 : BitVec 32 := Scalar.addi v203 v204
  v205.toNat
def k0_dev89 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v239 : BitVec 32 := Scalar.muli v2 c8_i32_198
  let v240 : BitVec 32 := Scalar.addi c0_i32_199 v239
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_200 : BitVec 32 := 4#32
  let v241 : BitVec 32 := Scalar.muli v20 c4_i32_200
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v243 : BitVec 32 := Scalar.muli v8 c1_i32_201
  let v244 : BitVec 32 := Scalar.addi v242 v243
  v244.toNat
def k0_dev90 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v251 : BitVec 32 := Scalar.muli v2 c8_i32_208
  let v252 : BitVec 32 := Scalar.addi c0_i32_209 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v253 : BitVec 32 := Scalar.muli v5 c4_i32_210
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_211 : BitVec 32 := 1#32
  let v255 : BitVec 32 := Scalar.muli v23 c1_i32_211
  let v256 : BitVec 32 := Scalar.addi v254 v255
  v256.toNat
def k0_dev91 (d0 : Dev nD) : Nat :=
  let c0_i32_236 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_235 : BitVec 32 := 8#32
  let v278 : BitVec 32 := Scalar.muli v19 c8_i32_235
  let v279 : BitVec 32 := Scalar.addi c0_i32_236 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_237 : BitVec 32 := 4#32
  let v280 : BitVec 32 := Scalar.muli v5 c4_i32_237
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v282 : BitVec 32 := Scalar.muli v8 c1_i32_238
  let v283 : BitVec 32 := Scalar.addi v281 v282
  v283.toNat
def k0_dev92 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v317 : BitVec 32 := Scalar.muli v2 c8_i32_266
  let v318 : BitVec 32 := Scalar.addi c0_i32_267 v317
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_268 : BitVec 32 := 4#32
  let v319 : BitVec 32 := Scalar.muli v20 c4_i32_268
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v321 : BitVec 32 := Scalar.muli v8 c1_i32_269
  let v322 : BitVec 32 := Scalar.addi v320 v321
  v322.toNat
def k0_dev93 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v329 : BitVec 32 := Scalar.muli v2 c8_i32_276
  let v330 : BitVec 32 := Scalar.addi c0_i32_277 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v331 : BitVec 32 := Scalar.muli v5 c4_i32_278
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_279 : BitVec 32 := 1#32
  let v333 : BitVec 32 := Scalar.muli v23 c1_i32_279
  let v334 : BitVec 32 := Scalar.addi v332 v333
  v334.toNat
def k0_dev94 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v355 : BitVec 32 := Scalar.muli v2 c8_i32_301
  let v356 : BitVec 32 := Scalar.addi c0_i32_302 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v357 : BitVec 32 := Scalar.muli v5 c4_i32_303
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_304 : BitVec 32 := 1#32
  let v359 : BitVec 32 := Scalar.muli v23 c1_i32_304
  let v360 : BitVec 32 := Scalar.addi v358 v359
  v360.toNat
def k0_dev95 (d0 : Dev nD) : Nat :=
  let c0_i32_326 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_325 : BitVec 32 := 8#32
  let v381 : BitVec 32 := Scalar.muli v2 c8_i32_325
  let v382 : BitVec 32 := Scalar.addi c0_i32_326 v381
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_327 : BitVec 32 := 4#32
  let v383 : BitVec 32 := Scalar.muli v20 c4_i32_327
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v385 : BitVec 32 := Scalar.muli v8 c1_i32_328
  let v386 : BitVec 32 := Scalar.addi v384 v385
  v386.toNat
def k0_dev96 (d0 : Dev nD) : Nat :=
  let c0_i32_351 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_350 : BitVec 32 := 8#32
  let v408 : BitVec 32 := Scalar.muli v19 c8_i32_350
  let v409 : BitVec 32 := Scalar.addi c0_i32_351 v408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_352 : BitVec 32 := 4#32
  let v410 : BitVec 32 := Scalar.muli v5 c4_i32_352
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v412 : BitVec 32 := Scalar.muli v8 c1_i32_353
  let v413 : BitVec 32 := Scalar.addi v411 v412
  v413.toNat
def k0_dev97 (d0 : Dev nD) : Nat :=
  let c0_i32_377 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_376 : BitVec 32 := 8#32
  let v442 : BitVec 32 := Scalar.muli v2 c8_i32_376
  let v443 : BitVec 32 := Scalar.addi c0_i32_377 v442
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_378 : BitVec 32 := 4#32
  let v444 : BitVec 32 := Scalar.muli v20 c4_i32_378
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v446 : BitVec 32 := Scalar.muli v8 c1_i32_379
  let v447 : BitVec 32 := Scalar.addi v445 v446
  v447.toNat
def k0_dev98 (d0 : Dev nD) : Nat :=
  let c0_i32_387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_386 : BitVec 32 := 8#32
  let v454 : BitVec 32 := Scalar.muli v2 c8_i32_386
  let v455 : BitVec 32 := Scalar.addi c0_i32_387 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_388 : BitVec 32 := 4#32
  let v456 : BitVec 32 := Scalar.muli v5 c4_i32_388
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_389 : BitVec 32 := 1#32
  let v458 : BitVec 32 := Scalar.muli v23 c1_i32_389
  let v459 : BitVec 32 := Scalar.addi v457 v458
  v459.toNat
def k0_dev99 (d0 : Dev nD) : Nat :=
  let c0_i32_412 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_411 : BitVec 32 := 8#32
  let v480 : BitVec 32 := Scalar.muli v2 c8_i32_411
  let v481 : BitVec 32 := Scalar.addi c0_i32_412 v480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_413 : BitVec 32 := 4#32
  let v482 : BitVec 32 := Scalar.muli v5 c4_i32_413
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_414 : BitVec 32 := 1#32
  let v484 : BitVec 32 := Scalar.muli v23 c1_i32_414
  let v485 : BitVec 32 := Scalar.addi v483 v484
  v485.toNat
def k0_dev100 (d0 : Dev nD) : Nat :=
  let c0_i32_436 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_435 : BitVec 32 := 8#32
  let v506 : BitVec 32 := Scalar.muli v2 c8_i32_435
  let v507 : BitVec 32 := Scalar.addi c0_i32_436 v506
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_437 : BitVec 32 := 4#32
  let v508 : BitVec 32 := Scalar.muli v20 c4_i32_437
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_438 : BitVec 32 := 1#32
  let v510 : BitVec 32 := Scalar.muli v8 c1_i32_438
  let v511 : BitVec 32 := Scalar.addi v509 v510
  v511.toNat
def k0_dev101 (d0 : Dev nD) : Nat :=
  let c0_i32_489 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_488 : BitVec 32 := 8#32
  let v561 : BitVec 32 := Scalar.muli v19 c8_i32_488
  let v562 : BitVec 32 := Scalar.addi c0_i32_489 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_490 : BitVec 32 := 4#32
  let v563 : BitVec 32 := Scalar.muli v5 c4_i32_490
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v565 : BitVec 32 := Scalar.muli v8 c1_i32_491
  let v566 : BitVec 32 := Scalar.addi v564 v565
  v566.toNat
def k0_dev102 (d0 : Dev nD) : Nat :=
  let c0_i32_515 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_514 : BitVec 32 := 8#32
  let v595 : BitVec 32 := Scalar.muli v2 c8_i32_514
  let v596 : BitVec 32 := Scalar.addi c0_i32_515 v595
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_516 : BitVec 32 := 4#32
  let v597 : BitVec 32 := Scalar.muli v20 c4_i32_516
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v599 : BitVec 32 := Scalar.muli v8 c1_i32_517
  let v600 : BitVec 32 := Scalar.addi v598 v599
  v600.toNat
def k0_dev103 (d0 : Dev nD) : Nat :=
  let c0_i32_525 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_524 : BitVec 32 := 8#32
  let v607 : BitVec 32 := Scalar.muli v2 c8_i32_524
  let v608 : BitVec 32 := Scalar.addi c0_i32_525 v607
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_526 : BitVec 32 := 4#32
  let v609 : BitVec 32 := Scalar.muli v5 c4_i32_526
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_527 : BitVec 32 := 1#32
  let v611 : BitVec 32 := Scalar.muli v23 c1_i32_527
  let v612 : BitVec 32 := Scalar.addi v610 v611
  v612.toNat
def k0_dev104 (d0 : Dev nD) : Nat :=
  let c0_i32_550 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_549 : BitVec 32 := 8#32
  let v633 : BitVec 32 := Scalar.muli v2 c8_i32_549
  let v634 : BitVec 32 := Scalar.addi c0_i32_550 v633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_551 : BitVec 32 := 4#32
  let v635 : BitVec 32 := Scalar.muli v5 c4_i32_551
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_552 : BitVec 32 := 1#32
  let v637 : BitVec 32 := Scalar.muli v23 c1_i32_552
  let v638 : BitVec 32 := Scalar.addi v636 v637
  v638.toNat
def k0_dev105 (d0 : Dev nD) : Nat :=
  let c0_i32_574 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_573 : BitVec 32 := 8#32
  let v659 : BitVec 32 := Scalar.muli v2 c8_i32_573
  let v660 : BitVec 32 := Scalar.addi c0_i32_574 v659
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_575 : BitVec 32 := 4#32
  let v661 : BitVec 32 := Scalar.muli v20 c4_i32_575
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_576 : BitVec 32 := 1#32
  let v663 : BitVec 32 := Scalar.muli v8 c1_i32_576
  let v664 : BitVec 32 := Scalar.addi v662 v663
  v664.toNat
def k0_dev106 (d0 : Dev nD) : Nat :=
  let c0_i32_633 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_632 : BitVec 32 := 8#32
  let v724 : BitVec 32 := Scalar.muli v2 c8_i32_632
  let v725 : BitVec 32 := Scalar.addi c0_i32_633 v724
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_634 : BitVec 32 := 4#32
  let v726 : BitVec 32 := Scalar.muli v20 c4_i32_634
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_635 : BitVec 32 := 1#32
  let v728 : BitVec 32 := Scalar.muli v8 c1_i32_635
  let v729 : BitVec 32 := Scalar.addi v727 v728
  v729.toNat
def k0_dev107 (d0 : Dev nD) : Nat :=
  let c0_i32_643 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_642 : BitVec 32 := 8#32
  let v736 : BitVec 32 := Scalar.muli v2 c8_i32_642
  let v737 : BitVec 32 := Scalar.addi c0_i32_643 v736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644 : BitVec 32 := 4#32
  let v738 : BitVec 32 := Scalar.muli v5 c4_i32_644
  let v739 : BitVec 32 := Scalar.addi v737 v738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_645 : BitVec 32 := 1#32
  let v740 : BitVec 32 := Scalar.muli v23 c1_i32_645
  let v741 : BitVec 32 := Scalar.addi v739 v740
  v741.toNat
def k0_dev108 (d0 : Dev nD) : Nat :=
  let c0_i32_668 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_667 : BitVec 32 := 8#32
  let v762 : BitVec 32 := Scalar.muli v2 c8_i32_667
  let v763 : BitVec 32 := Scalar.addi c0_i32_668 v762
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_669 : BitVec 32 := 4#32
  let v764 : BitVec 32 := Scalar.muli v5 c4_i32_669
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_670 : BitVec 32 := 1#32
  let v766 : BitVec 32 := Scalar.muli v23 c1_i32_670
  let v767 : BitVec 32 := Scalar.addi v765 v766
  v767.toNat
def k0_dev109 (d0 : Dev nD) : Nat :=
  let c0_i32_692 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_691 : BitVec 32 := 8#32
  let v788 : BitVec 32 := Scalar.muli v2 c8_i32_691
  let v789 : BitVec 32 := Scalar.addi c0_i32_692 v788
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_693 : BitVec 32 := 4#32
  let v790 : BitVec 32 := Scalar.muli v20 c4_i32_693
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_694 : BitVec 32 := 1#32
  let v792 : BitVec 32 := Scalar.muli v8 c1_i32_694
  let v793 : BitVec 32 := Scalar.addi v791 v792
  v793.toNat
def k0_dev110 (d0 : Dev nD) : Nat :=
  let c0_i32_751 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_750 : BitVec 32 := 8#32
  let v853 : BitVec 32 := Scalar.muli v2 c8_i32_750
  let v854 : BitVec 32 := Scalar.addi c0_i32_751 v853
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_752 : BitVec 32 := 4#32
  let v855 : BitVec 32 := Scalar.muli v20 c4_i32_752
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_753 : BitVec 32 := 1#32
  let v857 : BitVec 32 := Scalar.muli v8 c1_i32_753
  let v858 : BitVec 32 := Scalar.addi v856 v857
  v858.toNat
def k0_dev111 (d0 : Dev nD) : Nat :=
  let c0_i32_761 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_760 : BitVec 32 := 8#32
  let v865 : BitVec 32 := Scalar.muli v2 c8_i32_760
  let v866 : BitVec 32 := Scalar.addi c0_i32_761 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_762 : BitVec 32 := 4#32
  let v867 : BitVec 32 := Scalar.muli v5 c4_i32_762
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_763 : BitVec 32 := 1#32
  let v869 : BitVec 32 := Scalar.muli v23 c1_i32_763
  let v870 : BitVec 32 := Scalar.addi v868 v869
  v870.toNat
def k0_dev112 (d0 : Dev nD) : Nat :=
  let c0_i32_786 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_785 : BitVec 32 := 8#32
  let v891 : BitVec 32 := Scalar.muli v2 c8_i32_785
  let v892 : BitVec 32 := Scalar.addi c0_i32_786 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_787 : BitVec 32 := 4#32
  let v893 : BitVec 32 := Scalar.muli v5 c4_i32_787
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_788 : BitVec 32 := 1#32
  let v895 : BitVec 32 := Scalar.muli v23 c1_i32_788
  let v896 : BitVec 32 := Scalar.addi v894 v895
  v896.toNat
def k0_dev113 (d0 : Dev nD) : Nat :=
  let c0_i32_810 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_809 : BitVec 32 := 8#32
  let v917 : BitVec 32 := Scalar.muli v2 c8_i32_809
  let v918 : BitVec 32 := Scalar.addi c0_i32_810 v917
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_811 : BitVec 32 := 4#32
  let v919 : BitVec 32 := Scalar.muli v20 c4_i32_811
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_812 : BitVec 32 := 1#32
  let v921 : BitVec 32 := Scalar.muli v8 c1_i32_812
  let v922 : BitVec 32 := Scalar.addi v920 v921
  v922.toNat
def k0_dev114 (d0 : Dev nD) : Nat :=
  let c0_i32_869 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_868 : BitVec 32 := 8#32
  let v982 : BitVec 32 := Scalar.muli v2 c8_i32_868
  let v983 : BitVec 32 := Scalar.addi c0_i32_869 v982
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_870 : BitVec 32 := 4#32
  let v984 : BitVec 32 := Scalar.muli v20 c4_i32_870
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_871 : BitVec 32 := 1#32
  let v986 : BitVec 32 := Scalar.muli v8 c1_i32_871
  let v987 : BitVec 32 := Scalar.addi v985 v986
  v987.toNat
def k0_dev115 (d0 : Dev nD) : Nat :=
  let c0_i32_879 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_878 : BitVec 32 := 8#32
  let v994 : BitVec 32 := Scalar.muli v2 c8_i32_878
  let v995 : BitVec 32 := Scalar.addi c0_i32_879 v994
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_880 : BitVec 32 := 4#32
  let v996 : BitVec 32 := Scalar.muli v5 c4_i32_880
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_881 : BitVec 32 := 1#32
  let v998 : BitVec 32 := Scalar.muli v23 c1_i32_881
  let v999 : BitVec 32 := Scalar.addi v997 v998
  v999.toNat
def k0_dev116 (d0 : Dev nD) : Nat :=
  let c0_i32_904 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_903 : BitVec 32 := 8#32
  let v1020 : BitVec 32 := Scalar.muli v2 c8_i32_903
  let v1021 : BitVec 32 := Scalar.addi c0_i32_904 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_905 : BitVec 32 := 4#32
  let v1022 : BitVec 32 := Scalar.muli v5 c4_i32_905
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_906 : BitVec 32 := 1#32
  let v1024 : BitVec 32 := Scalar.muli v23 c1_i32_906
  let v1025 : BitVec 32 := Scalar.addi v1023 v1024
  v1025.toNat
def k0_dev117 (d0 : Dev nD) : Nat :=
  let c0_i32_928 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_927 : BitVec 32 := 8#32
  let v1046 : BitVec 32 := Scalar.muli v2 c8_i32_927
  let v1047 : BitVec 32 := Scalar.addi c0_i32_928 v1046
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_929 : BitVec 32 := 4#32
  let v1048 : BitVec 32 := Scalar.muli v20 c4_i32_929
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_930 : BitVec 32 := 1#32
  let v1050 : BitVec 32 := Scalar.muli v8 c1_i32_930
  let v1051 : BitVec 32 := Scalar.addi v1049 v1050
  v1051.toNat
def k0_dev118 (d0 : Dev nD) : Nat :=
  let c0_i32_987 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_986 : BitVec 32 := 8#32
  let v1111 : BitVec 32 := Scalar.muli v2 c8_i32_986
  let v1112 : BitVec 32 := Scalar.addi c0_i32_987 v1111
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_988 : BitVec 32 := 4#32
  let v1113 : BitVec 32 := Scalar.muli v20 c4_i32_988
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_989 : BitVec 32 := 1#32
  let v1115 : BitVec 32 := Scalar.muli v8 c1_i32_989
  let v1116 : BitVec 32 := Scalar.addi v1114 v1115
  v1116.toNat
def k0_dev119 (d0 : Dev nD) : Nat :=
  let c0_i32_997 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_996 : BitVec 32 := 8#32
  let v1123 : BitVec 32 := Scalar.muli v2 c8_i32_996
  let v1124 : BitVec 32 := Scalar.addi c0_i32_997 v1123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_998 : BitVec 32 := 4#32
  let v1125 : BitVec 32 := Scalar.muli v5 c4_i32_998
  let v1126 : BitVec 32 := Scalar.addi v1124 v1125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_999 : BitVec 32 := 1#32
  let v1127 : BitVec 32 := Scalar.muli v23 c1_i32_999
  let v1128 : BitVec 32 := Scalar.addi v1126 v1127
  v1128.toNat
def k0_dev120 (d0 : Dev nD) : Nat :=
  let c0_i32_1022 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1021 : BitVec 32 := 8#32
  let v1149 : BitVec 32 := Scalar.muli v2 c8_i32_1021
  let v1150 : BitVec 32 := Scalar.addi c0_i32_1022 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1023 : BitVec 32 := 4#32
  let v1151 : BitVec 32 := Scalar.muli v5 c4_i32_1023
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1024 : BitVec 32 := 1#32
  let v1153 : BitVec 32 := Scalar.muli v23 c1_i32_1024
  let v1154 : BitVec 32 := Scalar.addi v1152 v1153
  v1154.toNat
def k0_dev121 (d0 : Dev nD) : Nat :=
  let c0_i32_1046 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1045 : BitVec 32 := 8#32
  let v1175 : BitVec 32 := Scalar.muli v2 c8_i32_1045
  let v1176 : BitVec 32 := Scalar.addi c0_i32_1046 v1175
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1047 : BitVec 32 := 4#32
  let v1177 : BitVec 32 := Scalar.muli v20 c4_i32_1047
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1048 : BitVec 32 := 1#32
  let v1179 : BitVec 32 := Scalar.muli v8 c1_i32_1048
  let v1180 : BitVec 32 := Scalar.addi v1178 v1179
  v1180.toNat
def k0_dev122 (d0 : Dev nD) : Nat :=
  let c0_i32_1098 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1097 : BitVec 32 := 8#32
  let v1229 : BitVec 32 := Scalar.muli v2 c8_i32_1097
  let v1230 : BitVec 32 := Scalar.addi c0_i32_1098 v1229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1099 : BitVec 32 := 4#32
  let v1231 : BitVec 32 := Scalar.muli v5 c4_i32_1099
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1100 : BitVec 32 := 1#32
  let v1233 : BitVec 32 := Scalar.muli v23 c1_i32_1100
  let v1234 : BitVec 32 := Scalar.addi v1232 v1233
  v1234.toNat
def k0_dev123 (d0 : Dev nD) : Nat :=
  let c0_i32_1122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1121 : BitVec 32 := 8#32
  let v1255 : BitVec 32 := Scalar.muli v2 c8_i32_1121
  let v1256 : BitVec 32 := Scalar.addi c0_i32_1122 v1255
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1123 : BitVec 32 := 4#32
  let v1257 : BitVec 32 := Scalar.muli v20 c4_i32_1123
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1124 : BitVec 32 := 1#32
  let v1259 : BitVec 32 := Scalar.muli v8 c1_i32_1124
  let v1260 : BitVec 32 := Scalar.addi v1258 v1259
  v1260.toNat
def k0_cond4 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_35 : BitVec 32 := 1#32
  let v58 : BitVec 1 := Scalar.cmpi .eq v5 c1_i32_35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c1_i32_36 : BitVec 32 := 1#32
  let v59 : BitVec 1 := Scalar.cmpi .eq v18 c1_i32_36
  let v60 : BitVec 1 := Scalar.andi v58 v59
  let v61 : BitVec 32 := Scalar.extui v60
  let c0_i32_37 : BitVec 32 := 0#32
  let v62 : BitVec 1 := Scalar.cmpi .ne v61 c0_i32_37
  v62

def k0_dev124 (d0 : Dev nD) : Nat :=
  let c0_i32_82 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_81 : BitVec 32 := 8#32
  let v104 : BitVec 32 := Scalar.muli v19 c8_i32_81
  let v105 : BitVec 32 := Scalar.addi c0_i32_82 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v106 : BitVec 32 := Scalar.muli v5 c4_i32_83
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v108 : BitVec 32 := Scalar.muli v8 c1_i32_84
  let v109 : BitVec 32 := Scalar.addi v107 v108
  v109.toNat
def k0_dev125 (d0 : Dev nD) : Nat :=
  let c0_i32_104 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_103 : BitVec 32 := 8#32
  let v128 : BitVec 32 := Scalar.muli v19 c8_i32_103
  let v129 : BitVec 32 := Scalar.addi c0_i32_104 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v130 : BitVec 32 := Scalar.muli v5 c4_i32_105
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v132 : BitVec 32 := Scalar.muli v8 c1_i32_106
  let v133 : BitVec 32 := Scalar.addi v131 v132
  v133.toNat
def k0_dev126 (d0 : Dev nD) : Nat :=
  let c0_i32_125 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_124 : BitVec 32 := 8#32
  let v152 : BitVec 32 := Scalar.muli v19 c8_i32_124
  let v153 : BitVec 32 := Scalar.addi c0_i32_125 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v154 : BitVec 32 := Scalar.muli v5 c4_i32_126
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v156 : BitVec 32 := Scalar.muli v8 c1_i32_127
  let v157 : BitVec 32 := Scalar.addi v155 v156
  v157.toNat
def k0_dev127 (d0 : Dev nD) : Nat :=
  let c0_i32_146 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_145 : BitVec 32 := 8#32
  let v176 : BitVec 32 := Scalar.muli v19 c8_i32_145
  let v177 : BitVec 32 := Scalar.addi c0_i32_146 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v178 : BitVec 32 := Scalar.muli v5 c4_i32_147
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v180 : BitVec 32 := Scalar.muli v8 c1_i32_148
  let v181 : BitVec 32 := Scalar.addi v179 v180
  v181.toNat
def k0_dev128 (d0 : Dev nD) : Nat :=
  let c0_i32_167 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_166 : BitVec 32 := 8#32
  let v200 : BitVec 32 := Scalar.muli v19 c8_i32_166
  let v201 : BitVec 32 := Scalar.addi c0_i32_167 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_168 : BitVec 32 := 4#32
  let v202 : BitVec 32 := Scalar.muli v5 c4_i32_168
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_169 : BitVec 32 := 1#32
  let v204 : BitVec 32 := Scalar.muli v8 c1_i32_169
  let v205 : BitVec 32 := Scalar.addi v203 v204
  v205.toNat
def k0_dev129 (d0 : Dev nD) : Nat :=
  let c0_i32_199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_198 : BitVec 32 := 8#32
  let v239 : BitVec 32 := Scalar.muli v2 c8_i32_198
  let v240 : BitVec 32 := Scalar.addi c0_i32_199 v239
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_200 : BitVec 32 := 4#32
  let v241 : BitVec 32 := Scalar.muli v20 c4_i32_200
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v243 : BitVec 32 := Scalar.muli v8 c1_i32_201
  let v244 : BitVec 32 := Scalar.addi v242 v243
  v244.toNat
def k0_dev130 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v251 : BitVec 32 := Scalar.muli v2 c8_i32_208
  let v252 : BitVec 32 := Scalar.addi c0_i32_209 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v253 : BitVec 32 := Scalar.muli v5 c4_i32_210
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_211 : BitVec 32 := 1#32
  let v255 : BitVec 32 := Scalar.muli v23 c1_i32_211
  let v256 : BitVec 32 := Scalar.addi v254 v255
  v256.toNat
def k0_dev131 (d0 : Dev nD) : Nat :=
  let c0_i32_236 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_235 : BitVec 32 := 8#32
  let v278 : BitVec 32 := Scalar.muli v19 c8_i32_235
  let v279 : BitVec 32 := Scalar.addi c0_i32_236 v278
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_237 : BitVec 32 := 4#32
  let v280 : BitVec 32 := Scalar.muli v5 c4_i32_237
  let v281 : BitVec 32 := Scalar.addi v279 v280
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_238 : BitVec 32 := 1#32
  let v282 : BitVec 32 := Scalar.muli v8 c1_i32_238
  let v283 : BitVec 32 := Scalar.addi v281 v282
  v283.toNat
def k0_dev132 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v317 : BitVec 32 := Scalar.muli v2 c8_i32_266
  let v318 : BitVec 32 := Scalar.addi c0_i32_267 v317
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_268 : BitVec 32 := 4#32
  let v319 : BitVec 32 := Scalar.muli v20 c4_i32_268
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v321 : BitVec 32 := Scalar.muli v8 c1_i32_269
  let v322 : BitVec 32 := Scalar.addi v320 v321
  v322.toNat
def k0_dev133 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v329 : BitVec 32 := Scalar.muli v2 c8_i32_276
  let v330 : BitVec 32 := Scalar.addi c0_i32_277 v329
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v331 : BitVec 32 := Scalar.muli v5 c4_i32_278
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_279 : BitVec 32 := 1#32
  let v333 : BitVec 32 := Scalar.muli v23 c1_i32_279
  let v334 : BitVec 32 := Scalar.addi v332 v333
  v334.toNat
def k0_dev134 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v355 : BitVec 32 := Scalar.muli v2 c8_i32_301
  let v356 : BitVec 32 := Scalar.addi c0_i32_302 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v357 : BitVec 32 := Scalar.muli v5 c4_i32_303
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_304 : BitVec 32 := 1#32
  let v359 : BitVec 32 := Scalar.muli v23 c1_i32_304
  let v360 : BitVec 32 := Scalar.addi v358 v359
  v360.toNat
def k0_dev135 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v381 : BitVec 32 := Scalar.muli v2 c8_i32_324
  let v382 : BitVec 32 := Scalar.addi c0_i32_325 v381
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_326 : BitVec 32 := 4#32
  let v383 : BitVec 32 := Scalar.muli v20 c4_i32_326
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_327 : BitVec 32 := 1#32
  let v385 : BitVec 32 := Scalar.muli v8 c1_i32_327
  let v386 : BitVec 32 := Scalar.addi v384 v385
  v386.toNat
def k0_dev136 (d0 : Dev nD) : Nat :=
  let c0_i32_350 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_349 : BitVec 32 := 8#32
  let v408 : BitVec 32 := Scalar.muli v19 c8_i32_349
  let v409 : BitVec 32 := Scalar.addi c0_i32_350 v408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_351 : BitVec 32 := 4#32
  let v410 : BitVec 32 := Scalar.muli v5 c4_i32_351
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v412 : BitVec 32 := Scalar.muli v8 c1_i32_352
  let v413 : BitVec 32 := Scalar.addi v411 v412
  v413.toNat
def k0_dev137 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v442 : BitVec 32 := Scalar.muli v2 c8_i32_375
  let v443 : BitVec 32 := Scalar.addi c0_i32_376 v442
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_377 : BitVec 32 := 4#32
  let v444 : BitVec 32 := Scalar.muli v20 c4_i32_377
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v446 : BitVec 32 := Scalar.muli v8 c1_i32_378
  let v447 : BitVec 32 := Scalar.addi v445 v446
  v447.toNat
def k0_dev138 (d0 : Dev nD) : Nat :=
  let c0_i32_386 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_385 : BitVec 32 := 8#32
  let v454 : BitVec 32 := Scalar.muli v2 c8_i32_385
  let v455 : BitVec 32 := Scalar.addi c0_i32_386 v454
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_387 : BitVec 32 := 4#32
  let v456 : BitVec 32 := Scalar.muli v5 c4_i32_387
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_388 : BitVec 32 := 1#32
  let v458 : BitVec 32 := Scalar.muli v23 c1_i32_388
  let v459 : BitVec 32 := Scalar.addi v457 v458
  v459.toNat
def k0_dev139 (d0 : Dev nD) : Nat :=
  let c0_i32_411 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_410 : BitVec 32 := 8#32
  let v480 : BitVec 32 := Scalar.muli v2 c8_i32_410
  let v481 : BitVec 32 := Scalar.addi c0_i32_411 v480
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_412 : BitVec 32 := 4#32
  let v482 : BitVec 32 := Scalar.muli v5 c4_i32_412
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_413 : BitVec 32 := 1#32
  let v484 : BitVec 32 := Scalar.muli v23 c1_i32_413
  let v485 : BitVec 32 := Scalar.addi v483 v484
  v485.toNat
def k0_dev140 (d0 : Dev nD) : Nat :=
  let c0_i32_434 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_433 : BitVec 32 := 8#32
  let v506 : BitVec 32 := Scalar.muli v2 c8_i32_433
  let v507 : BitVec 32 := Scalar.addi c0_i32_434 v506
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_435 : BitVec 32 := 4#32
  let v508 : BitVec 32 := Scalar.muli v20 c4_i32_435
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v510 : BitVec 32 := Scalar.muli v8 c1_i32_436
  let v511 : BitVec 32 := Scalar.addi v509 v510
  v511.toNat
def k0_dev141 (d0 : Dev nD) : Nat :=
  let c0_i32_489 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_7 v2
  let c8_i32_488 : BitVec 32 := 8#32
  let v561 : BitVec 32 := Scalar.muli v19 c8_i32_488
  let v562 : BitVec 32 := Scalar.addi c0_i32_489 v561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_490 : BitVec 32 := 4#32
  let v563 : BitVec 32 := Scalar.muli v5 c4_i32_490
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_491 : BitVec 32 := 1#32
  let v565 : BitVec 32 := Scalar.muli v8 c1_i32_491
  let v566 : BitVec 32 := Scalar.addi v564 v565
  v566.toNat
def k0_dev142 (d0 : Dev nD) : Nat :=
  let c0_i32_515 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_514 : BitVec 32 := 8#32
  let v595 : BitVec 32 := Scalar.muli v2 c8_i32_514
  let v596 : BitVec 32 := Scalar.addi c0_i32_515 v595
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_516 : BitVec 32 := 4#32
  let v597 : BitVec 32 := Scalar.muli v20 c4_i32_516
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v599 : BitVec 32 := Scalar.muli v8 c1_i32_517
  let v600 : BitVec 32 := Scalar.addi v598 v599
  v600.toNat
def k0_dev143 (d0 : Dev nD) : Nat :=
  let c0_i32_525 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_524 : BitVec 32 := 8#32
  let v607 : BitVec 32 := Scalar.muli v2 c8_i32_524
  let v608 : BitVec 32 := Scalar.addi c0_i32_525 v607
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_526 : BitVec 32 := 4#32
  let v609 : BitVec 32 := Scalar.muli v5 c4_i32_526
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_527 : BitVec 32 := 1#32
  let v611 : BitVec 32 := Scalar.muli v23 c1_i32_527
  let v612 : BitVec 32 := Scalar.addi v610 v611
  v612.toNat
def k0_dev144 (d0 : Dev nD) : Nat :=
  let c0_i32_550 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_549 : BitVec 32 := 8#32
  let v633 : BitVec 32 := Scalar.muli v2 c8_i32_549
  let v634 : BitVec 32 := Scalar.addi c0_i32_550 v633
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_551 : BitVec 32 := 4#32
  let v635 : BitVec 32 := Scalar.muli v5 c4_i32_551
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_552 : BitVec 32 := 1#32
  let v637 : BitVec 32 := Scalar.muli v23 c1_i32_552
  let v638 : BitVec 32 := Scalar.addi v636 v637
  v638.toNat
def k0_dev145 (d0 : Dev nD) : Nat :=
  let c0_i32_573 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_572 : BitVec 32 := 8#32
  let v659 : BitVec 32 := Scalar.muli v2 c8_i32_572
  let v660 : BitVec 32 := Scalar.addi c0_i32_573 v659
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_574 : BitVec 32 := 4#32
  let v661 : BitVec 32 := Scalar.muli v20 c4_i32_574
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_575 : BitVec 32 := 1#32
  let v663 : BitVec 32 := Scalar.muli v8 c1_i32_575
  let v664 : BitVec 32 := Scalar.addi v662 v663
  v664.toNat
def k0_dev146 (d0 : Dev nD) : Nat :=
  let c0_i32_634 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_633 : BitVec 32 := 8#32
  let v724 : BitVec 32 := Scalar.muli v2 c8_i32_633
  let v725 : BitVec 32 := Scalar.addi c0_i32_634 v724
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_635 : BitVec 32 := 4#32
  let v726 : BitVec 32 := Scalar.muli v20 c4_i32_635
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_636 : BitVec 32 := 1#32
  let v728 : BitVec 32 := Scalar.muli v8 c1_i32_636
  let v729 : BitVec 32 := Scalar.addi v727 v728
  v729.toNat
def k0_dev147 (d0 : Dev nD) : Nat :=
  let c0_i32_644 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_643 : BitVec 32 := 8#32
  let v736 : BitVec 32 := Scalar.muli v2 c8_i32_643
  let v737 : BitVec 32 := Scalar.addi c0_i32_644 v736
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_645 : BitVec 32 := 4#32
  let v738 : BitVec 32 := Scalar.muli v5 c4_i32_645
  let v739 : BitVec 32 := Scalar.addi v737 v738
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_646 : BitVec 32 := 1#32
  let v740 : BitVec 32 := Scalar.muli v23 c1_i32_646
  let v741 : BitVec 32 := Scalar.addi v739 v740
  v741.toNat
def k0_dev148 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v762 : BitVec 32 := Scalar.muli v2 c8_i32_668
  let v763 : BitVec 32 := Scalar.addi c0_i32_669 v762
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v764 : BitVec 32 := Scalar.muli v5 c4_i32_670
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_671 : BitVec 32 := 1#32
  let v766 : BitVec 32 := Scalar.muli v23 c1_i32_671
  let v767 : BitVec 32 := Scalar.addi v765 v766
  v767.toNat
def k0_dev149 (d0 : Dev nD) : Nat :=
  let c0_i32_692 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_691 : BitVec 32 := 8#32
  let v788 : BitVec 32 := Scalar.muli v2 c8_i32_691
  let v789 : BitVec 32 := Scalar.addi c0_i32_692 v788
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_693 : BitVec 32 := 4#32
  let v790 : BitVec 32 := Scalar.muli v20 c4_i32_693
  let v791 : BitVec 32 := Scalar.addi v789 v790
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_694 : BitVec 32 := 1#32
  let v792 : BitVec 32 := Scalar.muli v8 c1_i32_694
  let v793 : BitVec 32 := Scalar.addi v791 v792
  v793.toNat
def k0_dev150 (d0 : Dev nD) : Nat :=
  let c0_i32_753 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_752 : BitVec 32 := 8#32
  let v853 : BitVec 32 := Scalar.muli v2 c8_i32_752
  let v854 : BitVec 32 := Scalar.addi c0_i32_753 v853
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_754 : BitVec 32 := 4#32
  let v855 : BitVec 32 := Scalar.muli v20 c4_i32_754
  let v856 : BitVec 32 := Scalar.addi v854 v855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_755 : BitVec 32 := 1#32
  let v857 : BitVec 32 := Scalar.muli v8 c1_i32_755
  let v858 : BitVec 32 := Scalar.addi v856 v857
  v858.toNat
def k0_dev151 (d0 : Dev nD) : Nat :=
  let c0_i32_763 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_762 : BitVec 32 := 8#32
  let v865 : BitVec 32 := Scalar.muli v2 c8_i32_762
  let v866 : BitVec 32 := Scalar.addi c0_i32_763 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_764 : BitVec 32 := 4#32
  let v867 : BitVec 32 := Scalar.muli v5 c4_i32_764
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_765 : BitVec 32 := 1#32
  let v869 : BitVec 32 := Scalar.muli v23 c1_i32_765
  let v870 : BitVec 32 := Scalar.addi v868 v869
  v870.toNat
def k0_dev152 (d0 : Dev nD) : Nat :=
  let c0_i32_788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_787 : BitVec 32 := 8#32
  let v891 : BitVec 32 := Scalar.muli v2 c8_i32_787
  let v892 : BitVec 32 := Scalar.addi c0_i32_788 v891
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_789 : BitVec 32 := 4#32
  let v893 : BitVec 32 := Scalar.muli v5 c4_i32_789
  let v894 : BitVec 32 := Scalar.addi v892 v893
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_790 : BitVec 32 := 1#32
  let v895 : BitVec 32 := Scalar.muli v23 c1_i32_790
  let v896 : BitVec 32 := Scalar.addi v894 v895
  v896.toNat
def k0_dev153 (d0 : Dev nD) : Nat :=
  let c0_i32_811 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_810 : BitVec 32 := 8#32
  let v917 : BitVec 32 := Scalar.muli v2 c8_i32_810
  let v918 : BitVec 32 := Scalar.addi c0_i32_811 v917
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_812 : BitVec 32 := 4#32
  let v919 : BitVec 32 := Scalar.muli v20 c4_i32_812
  let v920 : BitVec 32 := Scalar.addi v918 v919
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_813 : BitVec 32 := 1#32
  let v921 : BitVec 32 := Scalar.muli v8 c1_i32_813
  let v922 : BitVec 32 := Scalar.addi v920 v921
  v922.toNat
def k0_dev154 (d0 : Dev nD) : Nat :=
  let c0_i32_872 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_871 : BitVec 32 := 8#32
  let v982 : BitVec 32 := Scalar.muli v2 c8_i32_871
  let v983 : BitVec 32 := Scalar.addi c0_i32_872 v982
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_873 : BitVec 32 := 4#32
  let v984 : BitVec 32 := Scalar.muli v20 c4_i32_873
  let v985 : BitVec 32 := Scalar.addi v983 v984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_874 : BitVec 32 := 1#32
  let v986 : BitVec 32 := Scalar.muli v8 c1_i32_874
  let v987 : BitVec 32 := Scalar.addi v985 v986
  v987.toNat
def k0_dev155 (d0 : Dev nD) : Nat :=
  let c0_i32_882 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_881 : BitVec 32 := 8#32
  let v994 : BitVec 32 := Scalar.muli v2 c8_i32_881
  let v995 : BitVec 32 := Scalar.addi c0_i32_882 v994
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v996 : BitVec 32 := Scalar.muli v5 c4_i32_883
  let v997 : BitVec 32 := Scalar.addi v995 v996
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_884 : BitVec 32 := 1#32
  let v998 : BitVec 32 := Scalar.muli v23 c1_i32_884
  let v999 : BitVec 32 := Scalar.addi v997 v998
  v999.toNat
def k0_dev156 (d0 : Dev nD) : Nat :=
  let c0_i32_907 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_906 : BitVec 32 := 8#32
  let v1020 : BitVec 32 := Scalar.muli v2 c8_i32_906
  let v1021 : BitVec 32 := Scalar.addi c0_i32_907 v1020
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_908 : BitVec 32 := 4#32
  let v1022 : BitVec 32 := Scalar.muli v5 c4_i32_908
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_909 : BitVec 32 := 1#32
  let v1024 : BitVec 32 := Scalar.muli v23 c1_i32_909
  let v1025 : BitVec 32 := Scalar.addi v1023 v1024
  v1025.toNat
def k0_dev157 (d0 : Dev nD) : Nat :=
  let c0_i32_930 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_929 : BitVec 32 := 8#32
  let v1046 : BitVec 32 := Scalar.muli v2 c8_i32_929
  let v1047 : BitVec 32 := Scalar.addi c0_i32_930 v1046
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_931 : BitVec 32 := 4#32
  let v1048 : BitVec 32 := Scalar.muli v20 c4_i32_931
  let v1049 : BitVec 32 := Scalar.addi v1047 v1048
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_932 : BitVec 32 := 1#32
  let v1050 : BitVec 32 := Scalar.muli v8 c1_i32_932
  let v1051 : BitVec 32 := Scalar.addi v1049 v1050
  v1051.toNat
def k0_dev158 (d0 : Dev nD) : Nat :=
  let c0_i32_991 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_990 : BitVec 32 := 8#32
  let v1111 : BitVec 32 := Scalar.muli v2 c8_i32_990
  let v1112 : BitVec 32 := Scalar.addi c0_i32_991 v1111
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_992 : BitVec 32 := 4#32
  let v1113 : BitVec 32 := Scalar.muli v20 c4_i32_992
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_993 : BitVec 32 := 1#32
  let v1115 : BitVec 32 := Scalar.muli v8 c1_i32_993
  let v1116 : BitVec 32 := Scalar.addi v1114 v1115
  v1116.toNat
def k0_dev159 (d0 : Dev nD) : Nat :=
  let c0_i32_1001 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1000 : BitVec 32 := 8#32
  let v1123 : BitVec 32 := Scalar.muli v2 c8_i32_1000
  let v1124 : BitVec 32 := Scalar.addi c0_i32_1001 v1123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1002 : BitVec 32 := 4#32
  let v1125 : BitVec 32 := Scalar.muli v5 c4_i32_1002
  let v1126 : BitVec 32 := Scalar.addi v1124 v1125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1003 : BitVec 32 := 1#32
  let v1127 : BitVec 32 := Scalar.muli v23 c1_i32_1003
  let v1128 : BitVec 32 := Scalar.addi v1126 v1127
  v1128.toNat
def k0_dev160 (d0 : Dev nD) : Nat :=
  let c0_i32_1026 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1025 : BitVec 32 := 8#32
  let v1149 : BitVec 32 := Scalar.muli v2 c8_i32_1025
  let v1150 : BitVec 32 := Scalar.addi c0_i32_1026 v1149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1027 : BitVec 32 := 4#32
  let v1151 : BitVec 32 := Scalar.muli v5 c4_i32_1027
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1028 : BitVec 32 := 1#32
  let v1153 : BitVec 32 := Scalar.muli v23 c1_i32_1028
  let v1154 : BitVec 32 := Scalar.addi v1152 v1153
  v1154.toNat
def k0_dev161 (d0 : Dev nD) : Nat :=
  let c0_i32_1049 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1048 : BitVec 32 := 8#32
  let v1175 : BitVec 32 := Scalar.muli v2 c8_i32_1048
  let v1176 : BitVec 32 := Scalar.addi c0_i32_1049 v1175
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1050 : BitVec 32 := 4#32
  let v1177 : BitVec 32 := Scalar.muli v20 c4_i32_1050
  let v1178 : BitVec 32 := Scalar.addi v1176 v1177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1051 : BitVec 32 := 1#32
  let v1179 : BitVec 32 := Scalar.muli v8 c1_i32_1051
  let v1180 : BitVec 32 := Scalar.addi v1178 v1179
  v1180.toNat
def k0_dev162 (d0 : Dev nD) : Nat :=
  let c0_i32_1103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1102 : BitVec 32 := 8#32
  let v1229 : BitVec 32 := Scalar.muli v2 c8_i32_1102
  let v1230 : BitVec 32 := Scalar.addi c0_i32_1103 v1229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1104 : BitVec 32 := 4#32
  let v1231 : BitVec 32 := Scalar.muli v5 c4_i32_1104
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1105 : BitVec 32 := 1#32
  let v1233 : BitVec 32 := Scalar.muli v23 c1_i32_1105
  let v1234 : BitVec 32 := Scalar.addi v1232 v1233
  v1234.toNat
def k0_dev163 (d0 : Dev nD) : Nat :=
  let c0_i32_1126 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1125 : BitVec 32 := 8#32
  let v1255 : BitVec 32 := Scalar.muli v2 c8_i32_1125
  let v1256 : BitVec 32 := Scalar.addi c0_i32_1126 v1255
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_8 v5
  let c4_i32_1127 : BitVec 32 := 4#32
  let v1257 : BitVec 32 := Scalar.muli v20 c4_i32_1127
  let v1258 : BitVec 32 := Scalar.addi v1256 v1257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1128 : BitVec 32 := 1#32
  let v1259 : BitVec 32 := Scalar.muli v8 c1_i32_1128
  let v1260 : BitVec 32 := Scalar.addi v1258 v1259
  v1260.toNat
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ops.lean ====
/-
# The kernel's body as a list of steps

Every device runs one list of steps (`steps`); only two bits of its place on the mesh, `y` and `b = z mod 2`,
enter, through the quarter of the rows it reads and the quarters it writes. A step is a transfer's start, a wait, or
one of the two computations (`castA`, `addR`). `run` is the program a list denotes.
-/
module

public import proofs.«01_k».proof.Proof.Gen.KernelIdeal
public import proofs.«01_k».proof.Proof.Gen.KernelIdeal.Points

@[expose] public section

noncomputable section

namespace Cert.AllReduce

open Cert.KernelIdeal
open Idealize.ShloMosaic Idealize.ShloMosaic.TcCoe
open Idealize.SL Idealize.SL.Sem

/-! ## The peers -/

/-- The device across the x axis. -/
def xp (c : Dev nD) : Dev nD := ⟨k0_dev1 c, Gen.k0_dev1_lt c⟩
/-- The device across the y axis. -/
def yp (c : Dev nD) : Dev nD := ⟨k0_dev2 c, Gen.k0_dev2_lt c⟩
/-- The device beside it on the z axis: `0 ↔ 1`, `2 ↔ 3`. -/
def zp (c : Dev nD) : Dev nD := ⟨k0_dev3 c, Gen.k0_dev3_lt c⟩

/-! ## The rectangles -/

theorem inb_chunk (k : Fin 8) : ∀ a, (![k.val * 256, 0] : Fin 2 → Nat) a + S256x1024.size a ≤ S2048x1024.size a := by
  revert k; decide
theorem inb_half (k : Fin 8) (h : Fin 2) :
    ∀ a, (![k.val * 256 + h.val * 128, 0] : Fin 2 → Nat) a + S128x1024.size a ≤ S2048x1024.size a := by
  revert k h; decide
theorem inb_rows (q : Fin 4) (k : Fin 8) :
    ∀ a, (![q.val * 2048 + k.val * 256, 0] : Fin 2 → Nat) a + S256x1024.size a ≤ S8192x1024.size a := by
  revert q k; decide
theorem inb_rowsH (q : Fin 4) (k : Fin 8) (h : Fin 2) :
    ∀ a, (![q.val * 2048 + (k.val * 256 + h.val * 128), 0] : Fin 2 → Nat) a + S128x1024.size a ≤ S8192x1024.size a := by
  revert q k h; decide
theorem inb_slot8 (k : Fin 8) : ∀ a, (![k.val, 0, 0] : Fin 3 → Nat) a + S1x256x1024.size a ≤ S8x256x1024.size a := by
  revert k; decide
theorem inb_slot6 (s : Fin 6) : ∀ a, (![s.val, 0, 0] : Fin 3 → Nat) a + S1x256x1024.size a ≤ S6x256x1024.size a := by
  revert s; decide
theorem inb_sem8 (k : Fin 8) : ∀ a, (![k.val] : Fin 1 → Nat) a + S1.size a ≤ S8.size a := by revert k; decide
theorem inb_sem6 (s : Fin 6) : ∀ a, (![s.val] : Fin 1 → Nat) a + S1.size a ≤ S6.size a := by revert s; decide

/-- Rows `256 k …` of a quarter's 2048. -/
abbrev rChunk (k : Fin 8) : Rect S2048x1024 := Rect.unit ![k.val * 256, 0] S256x1024.size (inb_chunk k)
/-- Half `h` of those rows. -/
abbrev rHalf (k : Fin 8) (h : Fin 2) : Rect S2048x1024 :=
  Rect.unit ![k.val * 256 + h.val * 128, 0] S128x1024.size (inb_half k h)
/-- Chunk `k` of quarter `q` of the 8192 rows. -/
abbrev rRows (q : Fin 4) (k : Fin 8) : Rect S8192x1024 :=
  Rect.unit ![q.val * 2048 + k.val * 256, 0] S256x1024.size (inb_rows q k)
/-- Half `h` of that chunk. -/
abbrev rRowsH (q : Fin 4) (k : Fin 8) (h : Fin 2) : Rect S8192x1024 :=
  Rect.unit ![q.val * 2048 + (k.val * 256 + h.val * 128), 0] S128x1024.size (inb_rowsH q k h)
/-- Slot `k` of the eight bf16 slots. -/
abbrev rSlot8 (k : Fin 8) : Rect S8x256x1024 := Rect.unit ![k.val, 0, 0] S1x256x1024.size (inb_slot8 k)
/-- Slot `s` of the six f32 slots. -/
abbrev rSlot6 (s : Fin 6) : Rect S6x256x1024 := Rect.unit ![s.val, 0, 0] S1x256x1024.size (inb_slot6 s)

theorem words_chunk (k : Fin 8) : (rChunk k).WholeWords (EltTy.packing .bf16) := by revert k; decide
theorem words_half (k : Fin 8) (h : Fin 2) : (rHalf k h).WholeWords (EltTy.packing .bf16) := by revert k h; decide
theorem words_rows (q : Fin 4) (k : Fin 8) : (rRows q k).WholeWords (EltTy.packing .bf16) := by revert q k; decide
theorem words_rowsH (q : Fin 4) (k : Fin 8) (h : Fin 2) : (rRowsH q k h).WholeWords (EltTy.packing .bf16) := by
  revert q k h; decide
theorem words_slot8 (k : Fin 8) : (rSlot8 k).WholeWords (EltTy.packing .bf16) := by revert k; decide
theorem packed_slot8 (k : Fin 8) : (rSlot8 k).PackedRows (EltTy.packing .bf16) := by revert k; decide
theorem packed_chunk (k : Fin 8) : (rChunk k).PackedRows (EltTy.packing .bf16) := by revert k; decide

/-! ## The memrefs -/

/-- Chunk `k` of one of the five landing and sending buffers. -/
abbrev mChunk (B : Memref sig .tc .vmem S2048x1024 .bf16) (k : Fin 8) : Memref sig .tc .vmem S256x1024 .bf16 :=
  B.slice (rChunk k) (fun _ => rfl)
abbrev mHalf (B : Memref sig .tc .vmem S2048x1024 .bf16) (k : Fin 8) (h : Fin 2) : Memref sig .tc .vmem S128x1024 .bf16 :=
  B.slice (rHalf k h) (fun _ => rfl)
/-- A chunk of the result's rows. -/
abbrev mOut (q : Fin 4) (k : Fin 8) : Memref sig .tc .hbm S256x1024 .bf16 :=
  (Memref.whole main_v1).slice (rRows q k) (fun _ => rfl)
abbrev mOutH (q : Fin 4) (k : Fin 8) (h : Fin 2) : Memref sig .tc .hbm S128x1024 .bf16 :=
  (Memref.whole main_v1).slice (rRowsH q k h) (fun _ => rfl)
/-- A chunk of the argument's rows. -/
abbrev mX (q : Fin 4) (k : Fin 8) : Memref sig .tc .hbm S256x1024 .f32 :=
  (Memref.whole main_arg0).slice (rRows q k) (fun _ => rfl)
/-- Slot `k` of the buffer sent across x. -/
abbrev mSendA (k : Fin 8) : Memref sig .tc .vmem S256x1024 .bf16 :=
  ((Memref.whole cc0_scratch5).slice (rSlot8 k) (fun _ => rfl)).squeeze S256x1024 Gen.squeezes_S1x256x1024_S256x1024
/-- Slot `s` of the buffer the argument's chunks are read into. -/
abbrev mXf (s : Fin 6) : Memref sig .tc .vmem S256x1024 .f32 :=
  ((Memref.whole cc0_scratch6).slice (rSlot6 s) (fun _ => rfl)).squeeze S256x1024 Gen.squeezes_S1x256x1024_S256x1024

abbrev commA : Memref sig .tc .vmem S2048x1024 .bf16 := Memref.whole cc0_scratch0
abbrev sendR : Memref sig .tc .vmem S2048x1024 .bf16 := Memref.whole cc0_scratch1
abbrev commY : Memref sig .tc .vmem S2048x1024 .bf16 := Memref.whole cc0_scratch2
abbrev commZ : Memref sig .tc .vmem S2048x1024 .bf16 := Memref.whole cc0_scratch3
abbrev commD : Memref sig .tc .vmem S2048x1024 .bf16 := Memref.whole cc0_scratch4

/-! ## The transfers -/

/-- The local copies: the argument's chunks in, and a chunk (half chunk) of each quarter out. -/
inductive LCh | X | O | Y | Z | DY | DZ
deriving DecidableEq

instance : Fintype LCh := ⟨{.X, .O, .Y, .Z, .DY, .DZ}, fun x => by cases x <;> decide⟩

/-- The remote copies: across x, y, z, and the two forwarded halves. -/
inductive RCh | A | Y | Z | FY | FZ
deriving DecidableEq

instance : Fintype RCh := ⟨{.A, .Y, .Z, .FY, .FZ}, fun x => by cases x <;> decide⟩

/-- The two ends of a copy. -/
structure Xfer where
  sp : Space
  sp' : Space
  s : Shape
  e : EltTy
  src : Memref sig .tc sp s e
  dst : Memref sig .tc sp' s e
  hsrc : src.view.WordExact
  hdst : dst.view.WordExact

/-- Quarters: the device's own, its y, z and diagonal peer's. -/
def qO (y b : Fin 2) : Fin 4 := ⟨2 * y.val + b.val, by omega⟩
def qY (y b : Fin 2) : Fin 4 := ⟨2 * (1 - y.val) + b.val, by omega⟩
def qZ (y b : Fin 2) : Fin 4 := ⟨2 * y.val + (1 - b.val), by omega⟩
def qD (y b : Fin 2) : Fin 4 := ⟨2 * (1 - y.val) + (1 - b.val), by omega⟩

/-- The slot chunk `k` of the argument is read into. -/
def sl (k : Fin 8) : Fin 6 := ⟨k.val % 6, Nat.mod_lt _ (by decide)⟩

def lx (y b : Fin 2) : LCh → Fin 8 → Xfer
  | .X, k => ⟨_, _, _, _, mX (qO y b) k, mXf (sl k), View.wordExact_bits rfl, (View.wordExact_bits rfl).reshape _ _⟩
  | .O, k => ⟨_, _, _, _, mChunk sendR k, mOut (qO y b) k, (Memref.isWhole_whole _).wordExact_slice rfl _ (words_chunk k),
      (Memref.isWhole_whole main_v1).wordExact_slice rfl _ (words_rows _ k)⟩
  | .Y, k => ⟨_, _, _, _, mChunk commY k, mOut (qY y b) k, (Memref.isWhole_whole _).wordExact_slice rfl _ (words_chunk k),
      (Memref.isWhole_whole main_v1).wordExact_slice rfl _ (words_rows _ k)⟩
  | .Z, k => ⟨_, _, _, _, mChunk commZ k, mOut (qZ y b) k, (Memref.isWhole_whole _).wordExact_slice rfl _ (words_chunk k),
      (Memref.isWhole_whole main_v1).wordExact_slice rfl _ (words_rows _ k)⟩
  | .DY, k => ⟨_, _, _, _, mHalf commD k 0, mOutH (qD y b) k 0, (Memref.isWhole_whole _).wordExact_slice rfl _ (words_half k 0),
      (Memref.isWhole_whole main_v1).wordExact_slice rfl _ (words_rowsH _ k 0)⟩
  | .DZ, k => ⟨_, _, _, _, mHalf commD k 1, mOutH (qD y b) k 1, (Memref.isWhole_whole _).wordExact_slice rfl _ (words_half k 1),
      (Memref.isWhole_whole main_v1).wordExact_slice rfl _ (words_rowsH _ k 1)⟩

def rx : RCh → Fin 8 → Xfer
  | .A, k => ⟨_, _, _, _, mSendA k, mChunk commA k,
      ((Memref.isWhole_whole cc0_scratch5).wordExact_slice rfl _ (words_slot8 k)).reshape _ _,
      (Memref.isWhole_whole _).wordExact_slice rfl _ (words_chunk k)⟩
  | .Y, k => ⟨_, _, _, _, mChunk sendR k, mChunk commY k, (Memref.isWhole_whole _).wordExact_slice rfl _ (words_chunk k),
      (Memref.isWhole_whole _).wordExact_slice rfl _ (words_chunk k)⟩
  | .Z, k => ⟨_, _, _, _, mChunk sendR k, mChunk commZ k, (Memref.isWhole_whole _).wordExact_slice rfl _ (words_chunk k),
      (Memref.isWhole_whole _).wordExact_slice rfl _ (words_chunk k)⟩
  | .FY, k => ⟨_, _, _, _, mHalf commZ k 0, mHalf commD k 0, (Memref.isWhole_whole _).wordExact_slice rfl _ (words_half k 0),
      (Memref.isWhole_whole _).wordExact_slice rfl _ (words_half k 0)⟩
  | .FZ, k => ⟨_, _, _, _, mHalf commY k 1, mHalf commD k 1, (Memref.isWhole_whole _).wordExact_slice rfl _ (words_half k 1),
      (Memref.isWhole_whole _).wordExact_slice rfl _ (words_half k 1)⟩

/-- Whom a remote copy goes to. -/
def peer (c : Dev nD) : RCh → Dev nD
  | .A => xp c | .Y => yp c | .Z => zp c | .FY => yp c | .FZ => zp c

/-! ## The semaphores -/

abbrev at8 (a : DmaSems sig S8) (k : Fin 8) : DmaSem sig :=
  ((a.slice (Rect.unit (s := S8) ![k.val] S1.size (inb_sem8 k))).squeeze S_ Gen.squeezes_S1_S_).sem
abbrev at6 (a : DmaSems sig S6) (s : Fin 6) : DmaSem sig :=
  ((a.slice (Rect.unit (s := S6) ![s.val] S1.size (inb_sem6 s))).squeeze S_ Gen.squeezes_S1_S_).sem

def lsem : LCh → Fin 8 → DmaSem sig
  | .X, k => at6 cc0_scratch17 (sl k)
  | .O, k => at8 cc0_scratch18 k
  | .Y, k => at8 cc0_scratch19 k
  | .Z, k => at8 cc0_scratch20 k
  | .DY, k => at8 cc0_scratch21 k
  | .DZ, k => at8 cc0_scratch22 k

/-- Completes on the sender. -/
def ssem : RCh → Fin 8 → DmaSem sig
  | .A, k => at8 cc0_scratch7 k
  | .Y, k => at8 cc0_scratch9 k
  | .Z, k => at8 cc0_scratch11 k
  | .FY, k => at8 cc0_scratch13 k
  | .FZ, k => at8 cc0_scratch15 k

/-- Completes on the receiver. -/
def rsem : RCh → Fin 8 → DmaSem sig
  | .A, k => at8 cc0_scratch8 k
  | .Y, k => at8 cc0_scratch10 k
  | .Z, k => at8 cc0_scratch12 k
  | .FY, k => at8 cc0_scratch14 k
  | .FZ, k => at8 cc0_scratch16 k

/-! ## The steps -/

/-- A step. -/
inductive Op
  /-- Start a local copy; wait for it. -/
  | ls (ch : LCh) (k : Fin 8)
  | lw (ch : LCh) (k : Fin 8)
  /-- Start a remote copy; wait for the one that arrives; wait until the one sent has left. -/
  | rs (ch : RCh) (k : Fin 8)
  | rw (ch : RCh) (k : Fin 8)
  | sw (ch : RCh) (k : Fin 8)
  /-- Round chunk `k` of the argument to bf16. -/
  | castA (k : Fin 8)
  /-- Add the chunk that came across x. -/
  | addR (k : Fin 8)
deriving DecidableEq

variable {F : FTy → Type} [FloatOps F]

abbrev P (F : FTy → Type) : Type 1 := Prog (TpuEff nD τ sig (Elt F) Λ₀ .tc) PUnit

/-- The rounding of a chunk. -/
def vCast (v : Vec F S1x256x1024 .f32) : FVec F S1x256x1024 .bf16 :=
  shapeCast S1x256x1024 (truncf .bf16 (shapeCast S256x1024 v Gen.shapeCasts_S1x256x1024_S256x1024) Gen.bitsLt_bf16_f32)
    Gen.shapeCasts_S256x1024_S1x256x1024

/-- The sum of two chunks, rounded. -/
def vAdd (v : Vec F S1x256x1024 .bf16) (w : Vec F S256x1024 .bf16) : FVec F S256x1024 .bf16 :=
  shapeCast S256x1024 (truncf .bf16 (addf (extf .f32 (shapeCast S256x1024 v Gen.shapeCasts_S1x256x1024_S256x1024) Gen.bitsLt_bf16_f32)
    (extf .f32 w Gen.bitsLt_bf16_f32)) Gen.bitsLt_bf16_f32) Gen.shapeCasts_S256x1024_S256x1024

/-- The program of one step, then `K`. -/
def step (c : Dev nD) (y b : Fin 2) (K : P F) : Op → P F
  | .ls ch k => .op (.enqueueDma (lx y b ch k).src (.here (lx y b ch k).dst) (.dma (lsem ch k)) (lx y b ch k).hsrc
      (lx y b ch k).hdst (by cases ch <;> exact ⟨Or.inl rfl, trivial⟩)) fun _ => K
  | .lw ch k => .op (.waitDma2 (lsem ch k) (lx y b ch k).src (lx y b ch k).dst (lx y b ch k).hsrc (lx y b ch k).hdst) fun _ => K
  | .rs ch k => .op (.enqueueDma (rx ch k).src (.remote (Dev.tc (peer c ch)) (rx ch k).dst (.dma (ssem ch k)) (by cases ch <;> rfl)) (.dma (rsem ch k))
      (rx ch k).hsrc (rx ch k).hdst (by cases ch <;> exact ⟨⟨rfl, Or.inl rfl⟩, trivial⟩)) fun _ => K
  | .rw ch k => .op (.waitDma2 (rsem ch k) (rx ch k).src (rx ch k).dst (rx ch k).hsrc (rx ch k).hdst) fun _ => K
  | .sw ch k => .op (.waitDma2 (ssem ch k) (rx ch k).dst (rx ch k).src (rx ch k).hdst (rx ch k).hsrc) fun _ => K
  | .castA k =>
      .op (.load (Memref.whole cc0_scratch6) (rSlot6 (sl k)).toLoadRect (View.loadsAt_vmem Gen.h_S1x256x1024)) fun v =>
      .op (.load (Memref.whole cc0_scratch5) (rSlot8 k).toLoadRect (View.loadsAt_vmem Gen.h_S1x256x1024)) fun _ =>
      .op (.store (Memref.whole cc0_scratch5) (rSlot8 k) (vCast v) Finset.univ
        (View.stores_vmem Gen.h_S1x256x1024 ((Memref.isWhole_whole cc0_scratch5).storeExact_slice rfl _ (packed_slot8 k)) (fun _ => rfl))
        (.inl rfl)) fun _ => K
  | .addR k =>
      .op (.load (Memref.whole cc0_scratch5) (rSlot8 k).toLoadRect (View.loadsAt_vmem Gen.h_S1x256x1024)) fun v =>
      .op (.load commA (rChunk k).toLoadRect (View.loadsAt_vmem Gen.h_S256x1024)) fun w =>
      .op (.load sendR (rChunk k).toLoadRect (View.loadsAt_vmem Gen.h_S256x1024)) fun _ =>
      .op (.store sendR (rChunk k) (vAdd v w) Finset.univ
        (View.stores_vmem Gen.h_S256x1024 ((Memref.isWhole_whole cc0_scratch1).storeExact_slice rfl _ (packed_chunk k)) (fun _ => rfl))
        (.inl rfl)) fun _ => K

/-- The program of a list of steps. -/
def run (c : Dev nD) (y b : Fin 2) : List Op → P F
  | [] => .ret ⟨⟩
  | o :: l => step c y b (run c y b l) o

/-- A chunk into the pipeline: read, rounded, sent; the chunk two ahead started when its slot is free. -/
def feed (j : Fin 8) : List Op :=
  [.lw .X j, .castA j, .rs .A j] ++ (if h : 6 ≤ j.val + 2 ∧ j.val + 2 < 8 then [.ls .X ⟨j.val + 2, h.2⟩] else [])

/-- Chunk `k` as it arrives from y and z: forwarded by half and stored. -/
def consumeYZ (k : Fin 8) : List Op := [.rw .Y k, .rs .FZ k, .ls .Y k, .rw .Z k, .rs .FY k, .ls .Z k]

/-- The forwarded halves of chunk `k` as they arrive: stored. -/
def consumeD (k : Fin 8) : List Op := [.rw .FY k, .ls .DY k, .rw .FZ k, .ls .DZ k]

/-- The main loop's turn at chunk `k`. -/
def turn (k : Fin 8) : List Op :=
  (if h : k.val + 4 < 8 then feed ⟨k.val + 4, h⟩ else [])
    ++ [.rw .A k, .addR k, .rs .Y k, .rs .Z k, .ls .O k]
    ++ (if 1 ≤ k.val then consumeYZ ⟨k.val - 1, by omega⟩ else [])
    ++ (if 2 ≤ k.val then consumeD ⟨k.val - 2, by omega⟩ else [])

/-- The waits at the end, per chunk. -/
def drain (k : Fin 8) : List Op :=
  [.sw .A k, .sw .Y k, .sw .Z k, .sw .FY k, .sw .FZ k, .lw .O k, .lw .Y k, .lw .Z k, .lw .DY k, .lw .DZ k]

/-- The steps of a device. -/
def steps : List Op :=
  [.ls .X 0, .ls .X 1, .ls .X 2, .ls .X 3, .ls .X 4, .ls .X 5]
    ++ feed 0 ++ feed 1 ++ feed 2 ++ feed 3
    ++ turn 0 ++ turn 1 ++ turn 2 ++ turn 3 ++ turn 4 ++ turn 5 ++ turn 6 ++ turn 7
    ++ consumeYZ 7 ++ consumeD 6 ++ consumeD 7
    ++ drain 0 ++ drain 1 ++ drain 2 ++ drain 3 ++ drain 4 ++ drain 5 ++ drain 6 ++ drain 7

end Cert.AllReduce

end
-- ==== Proof.Body.lean ====
/-
# The body as lists of steps

The kernel's body signals the three peers, waits for their three signals, and then takes one of four branches by its
place `(y, b)`. Each branch is `run` of the one list `steps`.
That the printed body is this one is in BodyEq.lean.
-/
module

public import proofs.«01_k».proof.Proof.Ops

@[expose] public section

noncomputable section

namespace Cert.AllReduce

open Cert.KernelIdeal
open Idealize.ShloMosaic Idealize.ShloMosaic.TcCoe
open Idealize.SL Idealize.SL.Sem

variable {F : FTy → Type} [FloatOps F]

/-- The barrier semaphore. -/
abbrev bar : Sem sig := (SemArray.scalar (sig.barrier 0 rfl) : Sems sig S_).sem

/-- The four branches on device `d`, each as its list. -/
def branches (d : Dev nD) : P F := do
  if _h : k0_cond1 d = 1#1 then do
    run d 0 0 steps
    pure ⟨⟩
  else do
    pure ⟨⟩
  if _h : k0_cond2 d = 1#1 then do
    run d 0 1 steps
    pure ⟨⟩
  else do
    pure ⟨⟩
  if _h : k0_cond3 d = 1#1 then do
    run d 1 0 steps
    pure ⟨⟩
  else do
    pure ⟨⟩
  if _h : k0_cond4 d = 1#1 then do
    run d 1 1 steps
    pure ⟨⟩
  else do
    pure ⟨⟩
  pure ⟨⟩

/-- The body: the device's number, the barrier, the branches. -/
def body : P F := do
  let d : Dev nD ← Prog.lift .deviceId
  semSignalWord (xp d) bar 1#32
  semSignalWord (yp d) bar 1#32
  semSignalWord (zp d) bar 1#32
  semWaitWord bar 3#32
  branches d

/-- The two bits of a device's place that enter. -/
def yOf (c : Dev nD) : Fin 2 := ⟨c.val / 4 % 2, Nat.mod_lt _ (by decide)⟩
def bOf (c : Dev nD) : Fin 2 := ⟨c.val % 2, Nat.mod_lt _ (by decide)⟩

theorem cond1_iff (c : Dev nD) : k0_cond1 c = 1#1 ↔ yOf c = 0 ∧ bOf c = 0 := by revert c; decide
theorem cond2_iff (c : Dev nD) : k0_cond2 c = 1#1 ↔ yOf c = 0 ∧ bOf c = 1 := by revert c; decide
theorem cond3_iff (c : Dev nD) : k0_cond3 c = 1#1 ↔ yOf c = 1 ∧ bOf c = 0 := by revert c; decide
theorem cond4_iff (c : Dev nD) : k0_cond4 c = 1#1 ↔ yOf c = 1 ∧ bOf c = 1 := by revert c; decide

/-- Exactly one branch is taken: the one of the device's place. -/
theorem branches_eq (c : Dev nD) : branches (F := F) c = run c (yOf c) (bOf c) steps := by
  have key : ∀ y b : Fin 2, yOf c = y → bOf c = b → branches (F := F) c = run c y b steps := by
    intro y b hy hb
    fin_cases y <;> fin_cases b <;>
      simp [branches, cond1_iff, cond2_iff, cond3_iff, cond4_iff, hy, hb] <;>
      exact Prog.bind_pure _
  exact key _ _ rfl rfl

end Cert.AllReduce

end
-- ==== Proof.Contents.lean ====
/-
# What the buffers hold

Everything a device's buffers hold, as functions of the devices' arguments. A buffer's element is named by its row
and column as naturals (`X` reads the argument so), so that a chunk's contents at its own place and at its landing
place are compared by arithmetic on rows.
-/
module

public import proofs.«01_k».proof.Proof.Body
public import Idealize.ShloMosaic.Lib.Pipeline.Value
public import Idealize.ShloMosaic.Lib.ValueLayout

@[expose] public section

noncomputable section

namespace Cert.AllReduce

open Cert.KernelIdeal
open Idealize.ShloMosaic Idealize.ShloMosaic.TcCoe
open Idealize.SL Idealize.SL.Sem

/-! ## The peers' places -/

theorem xp_xp (c : Dev nD) : xp (xp c) = c := by revert c; decide
theorem yp_yp (c : Dev nD) : yp (yp c) = c := by revert c; decide
theorem zp_zp (c : Dev nD) : zp (zp c) = c := by revert c; decide
theorem yp_zp (c : Dev nD) : yp (zp c) = zp (yp c) := by revert c; decide

/-- A device's own quarter of the rows. -/
def q (c : Dev nD) : Fin 4 := qO (yOf c) (bOf c)
theorem q_xp (c : Dev nD) : q (xp c) = q c := by revert c; decide
theorem q_yp (c : Dev nD) : q (yp c) = qY (yOf c) (bOf c) := by revert c; decide
theorem q_zp (c : Dev nD) : q (zp c) = qZ (yOf c) (bOf c) := by revert c; decide
theorem q_d (c : Dev nD) : q (zp (yp c)) = qD (yOf c) (bOf c) := by revert c; decide

/-- The device of `c`'s group of four whose quarter is `p`. -/
def own (c : Dev nD) (p : Fin 4) : Dev nD :=
  if p = q c then c else if p = q (yp c) then yp c else if p = q (zp c) then zp c else zp (yp c)
theorem own_o (c : Dev nD) : own c (qO (yOf c) (bOf c)) = c := by revert c; decide
theorem own_y (c : Dev nD) : own c (qY (yOf c) (bOf c)) = yp c := by revert c; decide
theorem own_z (c : Dev nD) : own c (qZ (yOf c) (bOf c)) = zp c := by revert c; decide
theorem own_d (c : Dev nD) : own c (qD (yOf c) (bOf c)) = zp (yp c) := by revert c; decide

/-! ## The tables -/

section
variable {F : FTy → Type} [FloatOps F]
variable (X : Dev nD → S8192x1024.Idx → Elt F .f32)

/-- Device `c`'s argument at row `r`, column `j`. -/
def xT (c : Dev nD) (r j : ℕ) : F .f32 :=
  X c (fun | 0 => ⟨r % 8192, Nat.mod_lt _ (by decide)⟩ | 1 => ⟨j % 1024, Nat.mod_lt _ (by decide)⟩)

/-- Row `r` of its quarter, rounded. -/
def aT (c : Dev nD) (r j : ℕ) : F .bf16 := FloatOps.truncf .bf16 Gen.bitsLt_bf16_f32 (xT X c ((q c).val * 2048 + r) j)

/-- Row `r` of its quarter summed across x: both devices' rows, rounded, added, rounded. -/
def sT (c : Dev nD) (r j : ℕ) : F .bf16 :=
  FloatOps.truncf .bf16 Gen.bitsLt_bf16_f32 (FloatOps.addf (FloatOps.extf .f32 Gen.bitsLt_bf16_f32 (aT X c r j))
    (FloatOps.extf .f32 Gen.bitsLt_bf16_f32 (aT X (xp c) r j)))

/-- Row `r` of the result: from the device of the group whose quarter the row is in. -/
def oT (c : Dev nD) (r j : ℕ) : F .bf16 := sT X (own c ⟨r / 2048 % 4, Nat.mod_lt _ (by decide)⟩) (r % 2048) j

/-- A table as the contents of a two-axis array. -/
abbrev tab {α : Type} {n : Fin 2 → ℕ} (T : ℕ → ℕ → α) : (⟨2, n⟩ : Shape).Idx → α := fun i => T (i 0).val (i 1).val
/-- The slots of a three-axis array, 256 rows a slot. -/
abbrev slots {α : Type} {n : Fin 3 → ℕ} (T : ℕ → ℕ → α) : (⟨3, n⟩ : Shape).Idx → α := fun i => T ((i 0).val * 256 + (i 1).val) (i 2).val
/-- Slots that all hold chunk `k`. -/
abbrev slotsAt {α : Type} {n : Fin 3 → ℕ} (T : ℕ → ℕ → α) (k : ℕ) : (⟨3, n⟩ : Shape).Idx → α := fun i => T (k * 256 + (i 1).val) (i 2).val

omit [FloatOps F] in
theorem xT_eq (c : Dev nD) : tab (xT X c) = X c := by
  funext i
  refine congrArg (X c) (funext fun a => Fin.ext ?_)
  match a with
  | ⟨0, _⟩ => exact Nat.mod_eq_of_lt (i 0).isLt
  | ⟨1, _⟩ => exact Nat.mod_eq_of_lt (i 1).isLt

/-- Rows of a quarter of the result. -/
theorem oT_rows (c : Dev nD) (p : Fin 4) (r j : ℕ) (h : r < 2048) : oT X c (p.val * 2048 + r) j = sT X (own c p) r j := by
  unfold oT
  have h1 : (p.val * 2048 + r) / 2048 % 4 = p.val := by have := p.isLt; omega
  have h2 : (p.val * 2048 + r) % 2048 = r := by omega
  rw [h2]
  congr 1
  exact congrArg (own c) (Fin.ext h1)
end

/-! ## Reading through the chunks -/

section
variable {Val : EltTy → Type}

open Idealize.ShloMosaic.ValueIdx in
theorem reshape_lead (h : S256x1024.numel = S1x256x1024.numel) (x : S256x1024.Idx) :
    Shape.reshapeEquiv h x = ix3 (⟨0, Nat.one_pos⟩ : Fin 1) (x 0 : Fin 256) (x 1 : Fin 1024) := by
  have hx : x = ix2 (x 0 : Fin 256) (x 1 : Fin 1024) := by funext a; match a with | ⟨0, _⟩ => rfl | ⟨1, _⟩ => rfl
  conv_lhs => rw [hx]
  exact reshapeEquiv_ix2_1ab (a := 256) (b := 1024) h (x 0) (x 1)

theorem read_chunk (B : Memref sig .tc .vmem S2048x1024 .bf16) (f : B.view.ty.Contents Val) (T : ℕ → ℕ → Val .bf16)
    (h : B.view.read Val f = tab T) (k : Fin 8) :
    (mChunk B k).view.read Val f = fun x => T (k.val * 256 + (x 0).val) (x 1).val := by
  funext x
  refine (congrFun h ((rChunk k).emb x)).trans (congrArg₂ T ?_ ?_)
  · exact (Rect.emb_apply (rChunk k) x (0 : Fin 2)).trans (congrArg (k.val * 256 + ·) (Nat.one_mul _))
  · exact (Rect.emb_apply (rChunk k) x (1 : Fin 2)).trans ((Nat.zero_add _).trans (Nat.one_mul _))

theorem read_half (B : Memref sig .tc .vmem S2048x1024 .bf16) (f : B.view.ty.Contents Val) (T : ℕ → ℕ → Val .bf16)
    (h : B.view.read Val f = tab T) (k : Fin 8) (p : Fin 2) :
    (mHalf B k p).view.read Val f = fun x => T (k.val * 256 + p.val * 128 + (x 0).val) (x 1).val := by
  funext x
  refine (congrFun h ((rHalf k p).emb x)).trans (congrArg₂ T ?_ ?_)
  · exact (Rect.emb_apply (rHalf k p) x (0 : Fin 2)).trans (congrArg (k.val * 256 + p.val * 128 + ·) (Nat.one_mul _))
  · exact (Rect.emb_apply (rHalf k p) x (1 : Fin 2)).trans ((Nat.zero_add _).trans (Nat.one_mul _))

theorem read_out (T : ℕ → ℕ → Val .bf16) (p : Fin 4) (k : Fin 8) :
    (mOut p k).view.read Val (tab T) = fun x => T (p.val * 2048 + (k.val * 256 + (x 0).val)) (x 1).val := by
  funext x
  refine congrArg₂ T ?_ ?_
  · exact (Rect.emb_apply (rRows p k) x (0 : Fin 2)).trans
      ((congrArg (p.val * 2048 + k.val * 256 + ·) (Nat.one_mul _)).trans (Nat.add_assoc _ _ _))
  · exact (Rect.emb_apply (rRows p k) x (1 : Fin 2)).trans ((Nat.zero_add _).trans (Nat.one_mul _))

theorem read_outH (T : ℕ → ℕ → Val .bf16) (p : Fin 4) (k : Fin 8) (h : Fin 2) :
    (mOutH p k h).view.read Val (tab T) = fun x => T (p.val * 2048 + (k.val * 256 + h.val * 128 + (x 0).val)) (x 1).val := by
  funext x
  refine congrArg₂ T ?_ ?_
  · exact (Rect.emb_apply (rRowsH p k h) x (0 : Fin 2)).trans
      ((congrArg (p.val * 2048 + (k.val * 256 + h.val * 128) + ·) (Nat.one_mul _)).trans (Nat.add_assoc _ _ _))
  · exact (Rect.emb_apply (rRowsH p k h) x (1 : Fin 2)).trans ((Nat.zero_add _).trans (Nat.one_mul _))

theorem read_x (T : ℕ → ℕ → Val .f32) (p : Fin 4) (k : Fin 8) :
    (mX p k).view.read Val (tab T) = fun x => T (p.val * 2048 + (k.val * 256 + (x 0).val)) (x 1).val := by
  funext x
  refine congrArg₂ T ?_ ?_
  · exact (Rect.emb_apply (rRows p k) x (0 : Fin 2)).trans
      ((congrArg (p.val * 2048 + k.val * 256 + ·) (Nat.one_mul _)).trans (Nat.add_assoc _ _ _))
  · exact (Rect.emb_apply (rRows p k) x (1 : Fin 2)).trans ((Nat.zero_add _).trans (Nat.one_mul _))

theorem hN : S256x1024.numel = S1x256x1024.numel := by decide

theorem read_sendA (T : ℕ → ℕ → Val .bf16) (k : Fin 8) :
    (mSendA k).view.read Val (slots T) = fun x => T (k.val * 256 + (x 0).val) (x 1).val := by
  funext x
  show T _ _ = _
  have e : ∀ a : Fin 3, ((mSendA k).view.emb x a).val = (rSlot8 k).off a + (rSlot8 k).stride a * (Shape.reshapeEquiv (s := S1x256x1024) (s' := S256x1024) hN x a).val := fun a => rfl
  have e0 : ((mSendA k).view.emb x (0 : Fin 3)).val = k.val := by rw [e, reshape_lead]; exact Nat.add_zero _
  have e1 : ((mSendA k).view.emb x (1 : Fin 3)).val = (x 0).val := by
    rw [e, reshape_lead]; exact (Nat.zero_add _).trans (Nat.one_mul _)
  have e2 : ((mSendA k).view.emb x (2 : Fin 3)).val = (x 1).val := by
    rw [e, reshape_lead]; exact (Nat.zero_add _).trans (Nat.one_mul _)
  exact congrArg₂ T (congrArg₂ (fun a b => a * 256 + b) e0 e1) e2

theorem read_xf (T : ℕ → ℕ → Val .f32) (s : Fin 6) (k : ℕ) :
    (mXf s).view.read Val (slotsAt T k) = fun x => T (k * 256 + (x 0).val) (x 1).val := by
  funext x
  show T _ _ = _
  have e : ∀ a : Fin 3, ((mXf s).view.emb x a).val = (rSlot6 s).off a + (rSlot6 s).stride a * (Shape.reshapeEquiv (s := S1x256x1024) (s' := S256x1024) hN x a).val := fun a => rfl
  have e1 : ((mXf s).view.emb x (1 : Fin 3)).val = (x 0).val := by
    rw [e, reshape_lead]; exact (Nat.zero_add _).trans (Nat.one_mul _)
  have e2 : ((mXf s).view.emb x (2 : Fin 3)).val = (x 1).val := by
    rw [e, reshape_lead]; exact (Nat.zero_add _).trans (Nat.one_mul _)
  exact congrArg₂ T (congrArg (fun b => k * 256 + b) e1) e2

/-- What is written whole through a view is any contents that read back the same. -/
theorem write_eq_of_read {sp : Space} {s : Shape} {e : EltTy} (v : View sig .tc sp s e) (f g : v.ty.Contents Val) (w : s.Idx → Val e)
    (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end

/-! ## The two ends of every copy -/

section
variable {F : FTy → Type} [FloatOps F]
variable (X : Dev nD → S8192x1024.Idx → Elt F .f32)

/-- The rows of a device's own quarter. -/
def xq (c : Dev nD) (r j : ℕ) : F .f32 := xT X c ((q c).val * 2048 + r) j

/-- What a local copy on `c` reads. -/
def lsC (c : Dev nD) : (ch : LCh) → (k : Fin 8) → (lx (yOf c) (bOf c) ch k).src.view.ty.Contents (Elt F)
  | .X, _ => tab (xT X c)
  | .O, _ => tab (sT X c)
  | .Y, _ => tab (sT X (yp c))
  | .Z, _ => tab (sT X (zp c))
  | .DY, _ => tab (sT X (zp (yp c)))
  | .DZ, _ => tab (sT X (zp (yp c)))

/-- What it leaves at its destination. -/
def ldC (c : Dev nD) : (ch : LCh) → (k : Fin 8) → (lx (yOf c) (bOf c) ch k).dst.view.ty.Contents (Elt F)
  | .X, k => slotsAt (xq X c) k.val
  | .O, _ => tab (oT X c)
  | .Y, _ => tab (oT X c)
  | .Z, _ => tab (oT X c)
  | .DY, _ => tab (oT X c)
  | .DZ, _ => tab (oT X c)

/-- What a remote copy from `c` reads. -/
def rsC (c : Dev nD) : (ch : RCh) → (k : Fin 8) → (rx ch k).src.view.ty.Contents (Elt F)
  | .A, _ => slots (aT X c)
  | .Y, _ => tab (sT X c)
  | .Z, _ => tab (sT X c)
  | .FY, _ => tab (sT X (zp c))
  | .FZ, _ => tab (sT X (yp c))

/-- What a remote copy leaves on the device `c` it reaches. -/
def rdC (c : Dev nD) : (ch : RCh) → (k : Fin 8) → (rx ch k).dst.view.ty.Contents (Elt F)
  | .A, _ => tab (aT X (xp c))
  | .Y, _ => tab (sT X (yp c))
  | .Z, _ => tab (sT X (zp c))
  | .FY, _ => tab (sT X (zp (yp c)))
  | .FZ, _ => tab (sT X (zp (yp c)))

theorem chunk_lt (k : Fin 8) (x : S256x1024.Idx) : k.val * 256 + (x 0).val < 2048 := by
  have := k.isLt; have : (x 0).val < 256 := (x 0).isLt; omega
theorem half_lt (k : Fin 8) (h : Fin 2) (x : S128x1024.Idx) : k.val * 256 + h.val * 128 + (x 0).val < 2048 := by
  have := k.isLt; have := h.isLt; have : (x 0).val < 128 := (x 0).isLt; omega

theorem land_l (c : Dev nD) (ch : LCh) (k : Fin 8) :
    (lx (yOf c) (bOf c) ch k).dst.view.read (Elt F) (ldC X c ch k) = (lx (yOf c) (bOf c) ch k).src.view.read (Elt F) (lsC X c ch k) := by
  cases ch
  case X => exact (read_xf (Val := Elt F) (xq X c) (sl k) k.val).trans (read_x (Val := Elt F) (xT X c) (q c) k).symm
  case O =>
    refine (read_out (Val := Elt F) (oT X c) _ k).trans (Eq.trans ?_ (read_chunk (Val := Elt F) sendR (tab (sT X c)) (sT X c) rfl k).symm)
    exact funext fun x => (oT_rows X c _ _ _ (chunk_lt k x)).trans (by rw [own_o])
  case Y =>
    refine (read_out (Val := Elt F) (oT X c) _ k).trans (Eq.trans ?_ (read_chunk (Val := Elt F) commY (tab (sT X (yp c))) (sT X (yp c)) rfl k).symm)
    exact funext fun x => (oT_rows X c _ _ _ (chunk_lt k x)).trans (by rw [own_y])
  case Z =>
    refine (read_out (Val := Elt F) (oT X c) _ k).trans (Eq.trans ?_ (read_chunk (Val := Elt F) commZ (tab (sT X (zp c))) (sT X (zp c)) rfl k).symm)
    exact funext fun x => (oT_rows X c _ _ _ (chunk_lt k x)).trans (by rw [own_z])
  case DY =>
    refine (read_outH (Val := Elt F) (oT X c) _ k 0).trans (Eq.trans ?_ (read_half (Val := Elt F) commD (tab (sT X (zp (yp c)))) (sT X (zp (yp c))) rfl k 0).symm)
    exact funext fun x => (oT_rows X c _ _ _ (half_lt k 0 x)).trans (by rw [own_d])
  case DZ =>
    refine (read_outH (Val := Elt F) (oT X c) _ k 1).trans (Eq.trans ?_ (read_half (Val := Elt F) commD (tab (sT X (zp (yp c)))) (sT X (zp (yp c))) rfl k 1).symm)
    exact funext fun x => (oT_rows X c _ _ _ (half_lt k 1 x)).trans (by rw [own_d])

theorem land_r (c : Dev nD) (ch : RCh) (k : Fin 8) :
    (rx ch k).dst.view.read (Elt F) (rdC X (peer c ch) ch k) = (rx ch k).src.view.read (Elt F) (rsC X c ch k) := by
  cases ch
  case A =>
    show (mChunk commA k).view.read (Elt F) (tab (aT X (xp (xp c)))) = _
    rw [xp_xp]
    exact (read_chunk (Val := Elt F) commA (tab (aT X c)) (aT X c) rfl k).trans (read_sendA (Val := Elt F) (aT X c) k).symm
  case Y =>
    show (mChunk commY k).view.read (Elt F) (tab (sT X (yp (yp c)))) = _
    rw [yp_yp]
    exact (read_chunk (Val := Elt F) commY (tab (sT X c)) (sT X c) rfl k).trans (read_chunk (Val := Elt F) sendR (tab (sT X c)) (sT X c) rfl k).symm
  case Z =>
    show (mChunk commZ k).view.read (Elt F) (tab (sT X (zp (zp c)))) = _
    rw [zp_zp]
    exact (read_chunk (Val := Elt F) commZ (tab (sT X c)) (sT X c) rfl k).trans (read_chunk (Val := Elt F) sendR (tab (sT X c)) (sT X c) rfl k).symm
  case FY =>
    show (mHalf commD k 0).view.read (Elt F) (tab (sT X (zp (yp (yp c))))) = _
    rw [yp_yp]
    exact (read_half (Val := Elt F) commD (tab (sT X (zp c))) (sT X (zp c)) rfl k 0).trans (read_half (Val := Elt F) commZ (tab (sT X (zp c))) (sT X (zp c)) rfl k 0).symm
  case FZ =>
    show (mHalf commD k 1).view.read (Elt F) (tab (sT X (zp (yp (zp c))))) = _
    rw [yp_zp, zp_zp]
    exact (read_half (Val := Elt F) commD (tab (sT X (yp c))) (sT X (yp c)) rfl k 1).trans (read_half (Val := Elt F) commY (tab (sT X (yp c))) (sT X (yp c)) rfl k 1).symm

/-! ## The two computations -/

/-- A rounded chunk is the slot the transfer across x reads. -/
theorem cast_eq (c : Dev nD) (k : Fin 8) :
    ((Memref.whole cc0_scratch5).access (rSlot8 k)).read (Elt F) (slots (aT X c))
      = vCast (((Memref.whole cc0_scratch6).access (rSlot6 (sl k))).read (Elt F) (slotsAt (xq X c) k.val)) := by
  have hv : ∀ v : Vec F S1x256x1024 .f32, vCast v = fun i => FloatOps.truncf .bf16 Gen.bitsLt_bf16_f32 (v i) := fun v =>
    shapeCast_shapeCast (fun i => FloatOps.truncf .bf16 Gen.bitsLt_bf16_f32 (v i)) _ _
  rw [hv]
  funext x
  have h0 : (x 0).val = 0 := Nat.lt_one_iff.mp (x 0).isLt
  show aT X c _ _ = FloatOps.truncf .bf16 _ (xq X c _ _)
  refine congrArg₂ (fun r j => FloatOps.truncf .bf16 Gen.bitsLt_bf16_f32 (xq X c r j)) (congrArg₂ (fun a b => a * 256 + b) ?_ rfl) rfl
  exact (Rect.emb_apply (rSlot8 k) x (0 : Fin 3)).trans (by rw [h0]; exact Nat.add_zero _)

omit [FloatOps F] in
theorem read_slot8 (T : ℕ → ℕ → F .bf16) (k : Fin 8) (x : S256x1024.Idx) :
    ((Memref.whole cc0_scratch5).access (rSlot8 k)).read (Elt F) (slots T) (Shape.reshapeEquiv (s := S1x256x1024) (s' := S256x1024) hN x)
      = T (k.val * 256 + (x 0).val) (x 1).val := congrFun (read_sendA (Val := Elt F) T k) x

/-- The sum's rounding is the chunk sent across y and z. -/
theorem add_eq (c : Dev nD) (k : Fin 8) :
    (sendR.access (rChunk k)).read (Elt F) (tab (sT X c))
      = vAdd (((Memref.whole cc0_scratch5).access (rSlot8 k)).read (Elt F) (slots (aT X c)))
          ((commA.access (rChunk k)).read (Elt F) (tab (aT X (xp c)))) := by
  have h1 : (sendR.access (rChunk k)).read (Elt F) (tab (sT X c)) = fun x => sT X c (k.val * 256 + (x 0).val) (x 1).val :=
    read_chunk (Val := Elt F) sendR (tab (sT X c)) (sT X c) rfl k
  have h2 : (commA.access (rChunk k)).read (Elt F) (tab (aT X (xp c))) = fun x => aT X (xp c) (k.val * 256 + (x 0).val) (x 1).val :=
    read_chunk (Val := Elt F) commA (tab (aT X (xp c))) (aT X (xp c)) rfl k
  have h3 : shapeCast S256x1024 (((Memref.whole cc0_scratch5).access (rSlot8 k)).read (Elt F) (slots (aT X c))) Gen.shapeCasts_S1x256x1024_S256x1024
      = fun x => aT X c (k.val * 256 + (x 0).val) (x 1).val := funext fun x => read_slot8 (aT X c) k x
  unfold vAdd
  rw [shapeCast_self, h1, h2, h3]
  rfl

end

end Cert.AllReduce

end
-- ==== Proof.Atoms.lean ====
/-
# What changes hands

The memory a device holds is cut into pieces, one per end of a copy: `Piece` names a piece of chunk `k`, `piece c` is
the ownership it stands for on device `c`, with its contents. A semaphore's units arrive in rounds; `payload` lists the
pieces each arrival hands over. `sched` is the schedule of all the devices' semaphores, the barrier among them.

What the barrier hands device `c` are its peers' landing places (`Piece.re`); a copy across y lands a whole chunk of
`commY`, of which one share goes to the copy out, and of the other share the bottom half to the copy forwarded across z
(the top half stays idle); across z likewise with the halves exchanged.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Ring.Trips
public import Idealize.ShloMosaic.Lib.Tactic

@[expose] public section

noncomputable section

namespace Cert.AllReduce

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3)

/-! ## The semaphores by number -/

/-- What a DMA semaphore is for: a slot the argument is read into, a local copy, a remote copy's departure or arrival. -/
inductive Key
  | x (s : Fin 6)
  | l (ch : LCh) (k : Fin 8)
  | s (ch : RCh) (k : Fin 8)
  | r (ch : RCh) (k : Fin 8)
deriving DecidableEq

def rOf : ℕ → RCh | 0 => .A | 1 => .Y | 2 => .Z | 3 => .FY | _ => .FZ
def lOf : ℕ → LCh | 0 => .O | 1 => .Y | 2 => .Z | 3 => .DY | _ => .DZ

def key (i : DmaSem sig) : Key :=
  let k : Fin 8 := ⟨i.val % 8, Nat.mod_lt _ (by decide)⟩
  if i.val < 80 then if i.val / 8 % 2 = 0 then .s (rOf (i.val / 16)) k else .r (rOf (i.val / 16)) k
  else if i.val < 86 then .x ⟨(i.val - 80) % 6, Nat.mod_lt _ (by decide)⟩
  else .l (lOf ((i.val - 86) / 8)) ⟨(i.val - 86) % 8, Nat.mod_lt _ (by decide)⟩

/-- A local copy's place: the argument's chunks share six slots' semaphores. -/
def lkey : LCh → Fin 8 → Key
  | .X, k => .x (sl k)
  | ch, k => .l ch k

theorem key_lsem (ch : LCh) (k : Fin 8) : key (lsem ch k) = lkey ch k := by revert ch k; decide
theorem key_ssem (ch : RCh) (k : Fin 8) : key (ssem ch k) = .s ch k := by revert ch k; decide
theorem key_rsem (ch : RCh) (k : Fin 8) : key (rsem ch k) = .r ch k := by revert ch k; decide

/-- The round a local copy's semaphore is in: slots 0 and 1 of the argument's are used twice. -/
def rnd : LCh → Fin 8 → Fin 2
  | .X, k => ⟨k.val / 6, by omega⟩
  | _, _ => 0

/-- The units a copy brings to a semaphore. -/
def units : Key → ℕ
  | .x s => (mXf s).view.dmaCredit
  | .l ch k => (lx 0 0 ch k).dst.view.dmaCredit
  | .s ch k => (rx ch k).dst.view.dmaCredit
  | .r ch k => (rx ch k).dst.view.dmaCredit

theorem units_pos (a : Key) : 0 < units a := by
  cases a with
  | x s => exact View.dmaCredit_pos _ (by decide)
  | l ch k => cases ch <;> exact View.dmaCredit_pos _ (by revert k; decide)
  | s ch k => cases ch <;> exact View.dmaCredit_pos _ (by revert k; decide)
  | r ch k => cases ch <;> exact View.dmaCredit_pos _ (by revert k; decide)

theorem units_l (y b : Fin 2) (ch : LCh) (k : Fin 8) : (lx y b ch k).dst.view.dmaCredit = units (lkey ch k) := by cases ch <;> rfl
theorem units_rsrc (ch : RCh) (k : Fin 8) : (rx ch k).src.view.dmaCredit = (rx ch k).dst.view.dmaCredit := by
  cases ch <;> rfl

/-! ## The pieces -/

inductive Piece
  /-- A local copy's source, at the share it is read from; its destination before, and after. -/
  | ls (ch : LCh)
  | le (ch : LCh)
  | lf (ch : LCh)
  /-- A remote copy's source; its destination, on the peer, before. -/
  | rs (ch : RCh)
  | re (ch : RCh)
  /-- The chunk that came across x. -/
  | ca
  /-- The slot sent across x: before it is written; the share kept while it is sent. -/
  | se
  | sb
  /-- The chunk of `sendR` before it is written. -/
  | sr
  /-- The idle halves: the top of `commY`'s chunk, the bottom of `commZ`'s. -/
  | yt
  | zb
deriving DecidableEq

abbrev UU : Type := UR sig nD τ × URounds (GSem nD τ sig) (Fin 3)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- A memref's elements on device `c`, at a share, with contents. -/
def held (c : Dev nD) {sp : Space} {s : Shape} {e : EltTy} (M : Memref sig .tc sp s e) (q : PosShare TreeShare)
    (f : M.view.ty.Contents (Elt F)) : sProp 𝕄 :=
  (M.view.loc (c : Thread nD τ) ↦[M.view.set]{q} (f : Buf (Elt F) (M.view.loc (c : Thread nD τ))))

omit [FloatOps F] in
instance held_storable (c : Dev nD) {sp : Space} {s : Shape} {e : EltTy} (M : Memref sig .tc sp s e) (q f) :
    BI.Storable (upEmb : UEmb _ 𝕄) (held (F := F) c M q f) := by unfold held; infer_instance

/-- The share a local copy reads from. -/
def lq : LCh → PosShare TreeShare
  | .X => fullShare
  | .O => shares3 fullShare 2
  | .Y => fullShare.left
  | .Z => fullShare.left
  | .DY => fullShare
  | .DZ => fullShare

/-- The share a remote copy reads from. -/
def rq : RCh → PosShare TreeShare
  | .A => fullShare.left
  | .Y => shares3 fullShare 0
  | .Z => shares3 fullShare 1
  | .FY => fullShare.right
  | .FZ => fullShare.right

variable (X : Dev nD → S8192x1024.Idx → Elt F .f32)

def piece (c : Dev nD) : Piece → Fin 8 → sProp 𝕄
  | .ls ch, k => held c (lx (yOf c) (bOf c) ch k).src (lq ch) (lsC X c ch k)
  | .le ch, k => iprop(∃ f, held c (lx (yOf c) (bOf c) ch k).dst fullShare f)
  | .lf ch, k => held c (lx (yOf c) (bOf c) ch k).dst fullShare (ldC X c ch k)
  | .rs ch, k => held c (rx ch k).src (rq ch) (rsC X c ch k)
  | .re ch, k => iprop(∃ f, held (peer c ch) (rx ch k).dst fullShare f)
  | .ca, k => held c (rx .A k).dst fullShare (rdC X c .A k)
  | .se, k => iprop(∃ f, held c (mSendA k) fullShare f)
  | .sb, k => held c (mSendA k) fullShare.right (slots (aT X c))
  | .sr, k => iprop(∃ f, held c (mChunk sendR k) fullShare f)
  | .yt, k => held c (mHalf commY k 0) fullShare.right (tab (sT X (yp c)))
  | .zb, k => held c (mHalf commZ k 1) fullShare.right (tab (sT X (zp c)))

instance piece_storable (c : Dev nD) (a : Piece) (k : Fin 8) : BI.Storable (upEmb : UEmb _ 𝕄) (piece X c a k) := by
  cases a <;> (unfold piece; infer_instance)

/-- A list of pieces together. -/
def pieces (c : Dev nD) : List (Piece × Fin 8) → sProp 𝕄
  | [] => iprop(emp)
  | a :: l => iprop(piece X c a.1 a.2 ∗ pieces c l)

instance pieces_storable (c : Dev nD) (l : List (Piece × Fin 8)) : BI.Storable (upEmb : UEmb _ 𝕄) (pieces X c l) := by
  induction l with
  | nil => unfold pieces; infer_instance
  | cons a l ih => unfold pieces; infer_instance

/-! ## The schedule -/

/-- The pieces a copy hands over where it lands, or where it has left. -/
def payload : Key → ℕ → List (Piece × Fin 8)
  | .x s, r => let k : Fin 8 := ⟨(s.val + 6 * r) % 8, Nat.mod_lt _ (by decide)⟩; [(.ls .X, k), (.lf .X, k)]
  | .l ch k, _ => [(.ls ch, k), (.lf ch, k)]
  | .s ch k, _ => [(.rs ch, k)]
  | .r .A k, _ => [(.ca, k)]
  | .r .Y k, _ => [(.ls .Y, k), (.rs .FZ, k), (.yt, k)]
  | .r .Z k, _ => [(.ls .Z, k), (.rs .FY, k), (.zb, k)]
  | .r .FY k, _ => [(.ls .DY, k)]
  | .r .FZ k, _ => [(.ls .DZ, k)]

theorem payload_l (ch : LCh) (k : Fin 8) : payload (lkey ch k) (rnd ch k) = [(.ls ch, k), (.lf ch, k)] := by
  revert ch k; decide

/-- The pieces a peer's barrier signal hands over: 0 for the peer across x, 1 across y, 2 across z. -/
def barPay : Fin 3 → List (Piece × Fin 8)
  | 0 => (List.finRange 8).map fun k => (.re .A, k)
  | 1 => (List.finRange 8).map (fun k => (.re .Y, k)) ++ (List.finRange 8).map fun k => (.re .FY, k)
  | 2 => (List.finRange 8).map (fun k => (.re .Z, k)) ++ (List.finRange 8).map fun k => (.re .FZ, k)

/-- How many rounds a semaphore has. -/
def rounds : Key → ℕ
  | .x s => if s.val < 2 then 2 else 1
  | _ => 1

def sched : Rounds.Schedule (GSem nD τ sig) (Fin 3) 𝕄 where
  duties g r := match g.2 with
    | .reg _ => if r = 0 then Finset.univ else ∅
    | .dma i => if r < rounds (key i) then {0} else ∅
  unitless _ := False
  amount g _ _ := match g.2 with
    | .reg _ => 1
    | .dma i => units (key i)
  payload g r d := match g.2 with
    | .reg _ => pieces X g.1.1 (barPay d)
    | .dma i => pieces X g.1.1 (payload (key i) r)
  amount_pos g _ _ _ := by
    rcases g with ⟨t, sm⟩
    cases sm with
    | reg s => exact Nat.one_pos
    | dma i => exact units_pos _

instance sched_storable (g : GSem nD τ sig) (r : ℕ) (d : Fin 3) : BI.Storable (upEmb : UEmb _ 𝕄) ((sched X).payload g r d) := by
  rcases g with ⟨t, sm⟩
  cases sm with
  | reg s => exact pieces_storable X t.1 (barPay d)
  | dma i => exact pieces_storable X t.1 (payload (key i) r)

abbrev dcell (c : Dev nD) (i : DmaSem sig) : GSem nD τ sig := ((c : Thread nD τ), .dma i)
abbrev bcell (c : Dev nD) : GSem nD τ sig := ((c : Thread nD τ), .reg bar)

theorem duties_d (c : Dev nD) (i : DmaSem sig) (r : ℕ) (h : r < rounds (key i)) : (sched X).duties (dcell c i) r = {0} := if_pos h
theorem duties_d_end (c : Dev nD) (i : DmaSem sig) (r : ℕ) (h : rounds (key i) ≤ r) : (sched X).duties (dcell c i) r = ∅ :=
  if_neg (Nat.not_lt.2 h)
theorem duties_b (c : Dev nD) : (sched X).duties (bcell c) 0 = Finset.univ := rfl
theorem duties_b_end (c : Dev nD) (r : ℕ) (h : 1 ≤ r) : (sched X).duties (bcell c) r = ∅ := if_neg (by omega)

theorem expect_d (c : Dev nD) (i : DmaSem sig) (r : ℕ) (h : r < rounds (key i)) : (sched X).expect (dcell c i) r = units (key i) := by
  unfold Schedule.expect Schedule.amountOf; rw [duties_d X c i r h, Finset.sum_singleton]; rfl
theorem expect_b (c : Dev nD) : (sched X).expect (bcell c) 0 = 3 := by
  unfold Schedule.expect Schedule.amountOf; rw [duties_b X c]; rfl

theorem rest_d (c : Dev nD) (i : DmaSem sig) (r : ℕ) (h : r < rounds (key i)) :
    bigSep ((sched X).duties (dcell c i) r \ ∅) (fun d => (sched X).payload (dcell c i) r d) = pieces X c (payload (key i) r) := by
  rw [Finset.sdiff_empty, duties_d X c i r h, bigSep_singleton]; rfl
theorem rest_b (c : Dev nD) :
    bigSep ((sched X).duties (bcell c) 0 \ ∅) (fun d => (sched X).payload (bcell c) 0 d)
      = iprop(pieces X c (barPay 0) ∗ pieces X c (barPay 1) ∗ pieces X c (barPay 2)) := by
  rw [Finset.sdiff_empty, duties_b X c]
  exact bigSep_univ_eq_bigSepL ([0, 1, 2] : List (Fin 3)) (by decide) (by decide) _

theorem rnd_lt (ch : LCh) (k : Fin 8) : (rnd ch k).val < rounds (key (lsem ch k)) := by revert ch k; decide

end Cert.AllReduce

end
-- ==== Proof.Net.lean ====
/-
# The steps as a net

What a device owns between two steps is a set of `Atom`s: pieces of memory, the right to pay a semaphore's round, a
semaphore's place in its rounds, a credit for units under way. A step takes the atoms `pre` and leaves `post`. A set of
atoms is written as one number (bit `code a` for the atom `a`), so that the whole run is a computation (`exec`); that it
goes through from the launch's atoms to the exit's is `exec_steps`. `exec` also checks the order that rules out a
deadlock: while waiting for an arrival a device owes only arrivals of higher `rlev`.
-/
module

public import proofs.«01_k».proof.Proof.Atoms

@[expose] public section

noncomputable section

namespace Cert.AllReduce

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Atoms -/

inductive Atom
  | m (a : Piece) (k : Fin 8)
  /-- The semaphore is in round `r`; the right to pay its round `r`; the credit for a copy's units. -/
  | pos (r : Fin 3) (i : DmaSem sig)
  | tok (r : Fin 2) (i : DmaSem sig)
  | crd (i : DmaSem sig)
deriving DecidableEq

def lnum : LCh → ℕ | .X => 0 | .O => 1 | .Y => 2 | .Z => 3 | .DY => 4 | .DZ => 5
def rnum : RCh → ℕ | .A => 0 | .Y => 1 | .Z => 2 | .FY => 3 | .FZ => 4

def pcode : Piece → ℕ
  | .ls ch => lnum ch | .le ch => 6 + lnum ch | .lf ch => 12 + lnum ch
  | .rs ch => 18 + rnum ch | .re ch => 23 + rnum ch
  | .ca => 28 | .se => 29 | .sb => 30 | .sr => 31 | .yt => 32 | .zb => 33

def lun : ℕ → LCh | 0 => .X | 1 => .O | 2 => .Y | 3 => .Z | 4 => .DY | _ => .DZ

def pdec (n : ℕ) : Piece :=
  if n < 6 then .ls (lun n) else if n < 12 then .le (lun (n - 6)) else if n < 18 then .lf (lun (n - 12))
  else if n < 23 then .rs (rOf (n - 18)) else if n < 28 then .re (rOf (n - 23))
  else if n = 28 then .ca else if n = 29 then .se else if n = 30 then .sb else if n = 31 then .sr
  else if n = 32 then .yt else .zb

def code : Atom → ℕ
  | .m a k => pcode a * 128 + k.val
  | .pos r i => (40 + r.val) * 128 + i.val
  | .tok r i => (44 + r.val) * 128 + i.val
  | .crd i => 48 * 128 + i.val

def dec (n : ℕ) : Atom :=
  let i : Fin 126 := ⟨n % 128 % 126, Nat.mod_lt _ (by decide)⟩
  if n / 128 < 40 then .m (pdec (n / 128)) ⟨n % 8, Nat.mod_lt _ (by decide)⟩
  else if n / 128 < 44 then .pos ⟨(n / 128 - 40) % 3, Nat.mod_lt _ (by decide)⟩ i
  else if n / 128 < 48 then .tok ⟨(n / 128 - 44) % 2, Nat.mod_lt _ (by decide)⟩ i
  else .crd i

theorem dec_code (a : Atom) : dec (code a) = a := by
  cases a with
  | m a k => cases a <;> first | (revert k; decide) | (rename_i ch; cases ch <;> (revert k; decide))
  | pos r i => revert r i; decide +kernel
  | tok r i => revert r i; decide +kernel
  | crd i => revert i; decide +kernel

theorem code_lt (a : Atom) : code a < 8192 := by
  cases a with
  | m a k => cases a <;> first | (revert k; decide) | (rename_i ch; cases ch <;> (revert k; decide))
  | pos r i => revert r i; decide +kernel
  | tok r i => revert r i; decide +kernel
  | crd i => revert i; decide +kernel

/-! ## What a step takes and leaves -/

/-- The chunk whose turn at a slot comes after chunk `k`'s; `k` itself when there is none. -/
def nx (k : Fin 8) : Fin 8 := if h : k.val < 2 then ⟨k.val + 6, by omega⟩ else k

abbrev rndA (ch : LCh) (k : Fin 8) : Fin 3 := (rnd ch k).castSucc
abbrev rndB (ch : LCh) (k : Fin 8) : Fin 3 := (rnd ch k).succ

def atoms (l : List (Piece × Fin 8)) : List Atom := l.map fun x => .m x.1 x.2

def pre : Op → List Atom
  | .ls ch k => [.m (.ls ch) k, .m (.le ch) k, .tok (rnd ch k) (lsem ch k), .pos (rndA ch k) (lsem ch k)]
  | .lw ch k => [.crd (lsem ch k), .pos (rndA ch k) (lsem ch k)]
  | .rs ch k => [.m (.rs ch) k, .m (.re ch) k, .tok 0 (ssem ch k), .tok 0 (rsem ch k)]
  | .rw ch k => [.crd (rsem ch k), .pos 0 (rsem ch k)]
  | .sw ch k => [.crd (ssem ch k), .pos 0 (ssem ch k)]
  | .castA k => [.m (.lf .X) k, .m .se k]
  | .addR k => [.m .sb k, .m .ca k, .m .sr k]

def post : Op → List Atom
  | .ls ch k => [.crd (lsem ch k), .pos (rndA ch k) (lsem ch k)]
  | .lw ch k => [.m (.ls ch) k, .m (.lf ch) k, .pos (rndB ch k) (lsem ch k)]
  | .rs ch k => [.crd (ssem ch k)]
  | .rw ch k => .pos 1 (rsem ch k) :: atoms (payload (.r ch k) 0)
  | .sw ch k => [.m (.rs ch) k, .pos 1 (ssem ch k)]
  | .castA k => [.m (.le .X) (nx k), .m (.rs .A) k, .m .sb k]
  | .addR k => [.m .sb k, .m .ca k, .m (.rs .Y) k, .m (.rs .Z) k, .m (.ls .O) k]

/-! ## The computation -/

def mask : List Atom → ℕ
  | [] => 0
  | a :: l => 2 ^ code a ||| mask l

/-- No atom twice. -/
def good : List Atom → Bool
  | [] => true
  | a :: l => (2 ^ code a &&& mask l == 0) && good l

/-- An arrival's place in the order of waits. -/
def rlev : RCh → Fin 8 → ℕ
  | .A, k => 10 * k.val + 1
  | .Y, k => 10 * (k.val + 4) + 2
  | .Z, k => 10 * (k.val + 4) + 3
  | .FZ, k => 10 * (k.val + 5) + 4
  | .FY, k => 10 * (k.val + 5) + 5

/-- Every copy the steps `l` still start arrives above level `n`. -/
def above (n : ℕ) (l : List Op) : Bool := l.all fun o => match o with | .rs ch k => n < rlev ch k | _ => true

def waitsOk : Op → List Op → Bool
  | .rw ch k, l => above (rlev ch k) l
  | .lw _ _, l => above 0 l
  | .sw _ _, l => above 0 l
  | _, _ => true

def fire (s : ℕ) (o : Op) : Option ℕ :=
  let p := mask (pre o)
  let q := mask (post o)
  let t := s ^^^ p
  if (s &&& p == p) && (t &&& q == 0) && good (pre o) && good (post o) then some (t ||| q) else none

def exec (s : ℕ) : List Op → Option ℕ
  | [] => some s
  | o :: l => if waitsOk o l then (fire s o).bind fun t => exec t l else none

/-- What a device starts with, per chunk: its own memory, and what its peers' barrier signals hand it. -/
def initM (k : Fin 8) : List (Piece × Fin 8) :=
  [(.ls .X, k), (.le .O, k), (.le .Y, k), (.le .Z, k), (.le .DY, k), (.le .DZ, k), (.se, k), (.sr, k)]
def slots6 : List (Piece × Fin 8) := [(.le .X, 0), (.le .X, 1), (.le .X, 2), (.le .X, 3), (.le .X, 4), (.le .X, 5)]

def initG : List Atom :=
  (List.finRange 126).map (.pos 0) ++ ((List.finRange 126).map (.tok 0) ++ ([.tok 1 (lsem .X 6), .tok 1 (lsem .X 7)]
    ++ (RList.flatMap fun ch => (List.finRange 8).map fun k => .crd (rsem ch k))))
where RList : List RCh := [.A, .Y, .Z, .FY, .FZ]

def initA : List Atom :=
  atoms ((List.finRange 8).flatMap initM) ++ (atoms slots6 ++ (initG
    ++ (atoms (barPay 0) ++ (atoms (barPay 1) ++ atoms (barPay 2)))))

/-- What it ends with. -/
def finM (k : Fin 8) : List (Piece × Fin 8) :=
  [(.ls .X, k), (.lf .O, k), (.lf .Y, k), (.lf .Z, k), (.lf .DY, k), (.lf .DZ, k), (.rs .A, k), (.sb, k), (.ca, k),
    (.ls .O, k), (.rs .Y, k), (.rs .Z, k), (.ls .Y, k), (.rs .FZ, k), (.yt, k), (.ls .Z, k), (.rs .FY, k), (.zb, k),
    (.ls .DY, k), (.ls .DZ, k)]
def slotsEnd : List (Piece × Fin 8) := [(.le .X, 6), (.le .X, 7), (.le .X, 2), (.le .X, 3), (.le .X, 4), (.le .X, 5)]

def finA : List Atom :=
  atoms ((List.finRange 8).flatMap finM) ++ (atoms slotsEnd
    ++ (List.finRange 126).map fun i => .pos (if (key i == .x 0) || (key i == .x 1) then 2 else 1) i)

theorem exec_steps : exec (mask initA) steps = some (mask finA) := by decide +kernel
theorem good_init : good initA = true := by decide +kernel
theorem good_fin : good finA = true := by decide +kernel

end Cert.AllReduce

end
-- ==== Proof.Own.lean ====
/-
# A device's atoms, as ownership

What an atom stands for on device `c` (`den`), a list of atoms together (`sepA`), a set given as a number (`Own`), and
that a step's change of the number is its change of the ownership (`own_fire`). `owed` is what a device still owes its
peers while the steps `l` are ahead; `ctx` is what every device knows throughout.
-/
module

public import proofs.«01_k».proof.Proof.Net

@[expose] public section

noncomputable section

namespace Cert.AllReduce

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S8192x1024.Idx → Elt F .f32)

/-- Whose semaphore `i` a device pays: an arrival's is the peer's, any other its own. -/
def payee (c : Dev nD) (i : DmaSem sig) : Dev nD := match key i with | .r ch _ => peer c ch | _ => c

theorem payee_l (c : Dev nD) (ch : LCh) (k : Fin 8) : payee c (lsem ch k) = c := by unfold payee; rw [key_lsem]; cases ch <;> rfl
theorem payee_s (c : Dev nD) (ch : RCh) (k : Fin 8) : payee c (ssem ch k) = c := by unfold payee; rw [key_ssem]
theorem payee_r (c : Dev nD) (ch : RCh) (k : Fin 8) : payee c (rsem ch k) = peer c ch := by unfold payee; rw [key_rsem]

def den (c : Dev nD) : Atom → sProp 𝕄
  | .m a k => piece X c a k
  | .pos r i => iprop(atPos ER (dcell c i) r.val ∅ 0 ∗ reached ER (dcell c i) r.val)
  | .tok r i => dutyTok ER (dcell (payee c i) i) r.val 0
  | .crd i => cred (tallyAt (dcell c i) () (units (key i)))

def sepA (c : Dev nD) : List Atom → sProp 𝕄
  | [] => iprop(emp)
  | a :: l => iprop(den X c a ∗ sepA c l)

theorem sepA_append (c : Dev nD) (l l' : List Atom) : sepA X c (l ++ l') = iprop(sepA X c l ∗ sepA X c l') := by
  induction l with
  | nil => rw [List.nil_append]; unfold sepA; exact (BI.equiv_iff.mp BI.emp_sep).symm
  | cons a l ih => rw [List.cons_append]; show iprop(den X c a ∗ sepA X c (l ++ l')) = _; rw [ih]; exact (BI.equiv_iff.mp ⟨BI.sep_assoc, BI.sep_assoc'⟩).symm

theorem sepA_atoms (c : Dev nD) (l : List (Piece × Fin 8)) : sepA X c (atoms l) = pieces X c l := by
  induction l with
  | nil => rfl
  | cons a l ih => show iprop(den X c (.m a.1 a.2) ∗ sepA X c (atoms l)) = _; rw [ih]; rfl

/-! ## Sets of atoms as numbers -/

def bits (s : ℕ) : Finset ℕ := (Finset.range 8192).filter fun n => s.testBit n = true

def Own (c : Dev nD) (s : ℕ) : sProp 𝕄 := bigSep (bits s) fun n => den X c (dec n)

theorem bits_or (s t : ℕ) : bits (s ||| t) = bits s ∪ bits t := by
  ext n; unfold bits; rw [Finset.mem_union, Finset.mem_filter, Finset.mem_filter, Finset.mem_filter, Nat.testBit_or, Bool.or_eq_true]
  exact and_or_left

theorem bits_disj {s t : ℕ} (h : s &&& t = 0) : Disjoint (bits s) (bits t) := by
  rw [Finset.disjoint_left]; unfold bits
  intro n hs ht
  have h1 := (Finset.mem_filter.mp hs).2
  have h2 := (Finset.mem_filter.mp ht).2
  have h3 : (s &&& t).testBit n = true := by rw [Nat.testBit_and, h1, h2]; rfl
  rw [h, Nat.zero_testBit] at h3; exact absurd h3 (by decide)

theorem own_or (c : Dev nD) {s t : ℕ} (h : s &&& t = 0) : Own X c (s ||| t) = iprop(Own X c s ∗ Own X c t) := by
  unfold Own; rw [bits_or]; exact bigSep_union (bits_disj h)

theorem own_code (c : Dev nD) (a : Atom) : Own X c (2 ^ code a) = den X c a := by
  have h : bits (2 ^ code a) = {code a} := by
    ext n; unfold bits
    rw [Finset.mem_filter, Finset.mem_range, Finset.mem_singleton, Nat.testBit_two_pow, decide_eq_true_iff]
    exact ⟨fun h => h.2.symm, fun h => ⟨h ▸ code_lt a, h.symm⟩⟩
  unfold Own; rw [h, bigSep_singleton, dec_code]

theorem own_zero (c : Dev nD) : Own X c 0 = iprop(emp) := by
  have h : bits 0 = ∅ := by
    ext n; unfold bits; rw [Finset.mem_filter, Nat.zero_testBit]; exact ⟨fun h => absurd h.2 (by decide), fun h => absurd h (Finset.notMem_empty n)⟩
  unfold Own; rw [h]; exact bigSep_empty

theorem own_mask (c : Dev nD) : (l : List Atom) → (h : good l = true) → Own X c (mask l) = sepA X c l
  | [], _ => own_zero X c
  | a :: l, h => by
    unfold good at h
    rw [Bool.and_eq_true, beq_iff_eq] at h
    show Own X c (2 ^ code a ||| mask l) = iprop(den X c a ∗ sepA X c l)
    rw [own_or X c h.1, own_code, own_mask c l h.2]

theorem own_fire (c : Dev nD) {s s' : ℕ} {o : Op} (h : fire s o = some s') :
    ∃ R : sProp 𝕄, Own X c s = iprop(sepA X c (pre o) ∗ R) ∧ Own X c s' = iprop(sepA X c (post o) ∗ R) := by
  unfold fire at h
  dsimp only at h
  split at h
  · rename_i hc
    simp only [Bool.and_eq_true, beq_iff_eq] at hc
    obtain ⟨⟨⟨h1, h2⟩, h3⟩, h4⟩ := hc
    have hs' := (Option.some.inj h).symm
    refine ⟨Own X c (s ^^^ mask (pre o)), ?_, ?_⟩
    · rw [← own_mask X c _ h3, ← own_or X c]
      · congr 1
        apply Nat.eq_of_testBit_eq; intro n
        have := congrArg (fun z => z.testBit n) h1
        simp only [Nat.testBit_and] at this
        rw [Nat.testBit_or, Nat.testBit_xor]
        revert this; cases s.testBit n <;> cases (mask (pre o)).testBit n <;> decide
      · apply Nat.eq_of_testBit_eq; intro n
        have := congrArg (fun z => z.testBit n) h1
        simp only [Nat.testBit_and] at this
        rw [Nat.testBit_and, Nat.testBit_xor, Nat.zero_testBit]
        revert this; cases s.testBit n <;> cases (mask (pre o)).testBit n <;> decide
    · rw [hs', own_or X c h2, own_mask X c _ h4]
      exact BI.equiv_iff.mp ⟨BI.sep_comm, BI.sep_comm⟩
  · exact absurd h (by simp)

/-! ## What is owed -/

/-- The arrivals still to be paid while the steps `l` are ahead. -/
def owed (c : Dev nD) : List Op → CellTallies nD τ sig Unit
  | [] => 0
  | .rs ch k :: l => owed c l + tallyAt (dcell (peer c ch) (rsem ch k)) () (units (.r ch k))
  | _ :: l => owed c l

def levR : Key → ℕ
  | .r ch k => rlev ch k
  | _ => 0

def L (g : GSem nD τ sig) : Finset Unit := if g.1.2 = .tc then {()} else ∅
def lv (g : GSem nD τ sig) (_ : Unit) : ℕ := match g.2 with | .reg _ => 0 | .dma i => levR (key i)
theorem L_of_ne (g : GSem nD τ sig) (h : g.1.2 ≠ .tc) : L g = ∅ := if_neg h
theorem L_tc (c : Dev nD) (sm : SemLoc sig) : L ((c : Thread nD τ), sm) = {()} := if_pos rfl

theorem owed_pos (c : Dev nD) (g : GSem nD τ sig) (u : Unit) : (l : List Op) → (h : 0 < owed c l g u) →
    ∃ ch k, Op.rs ch k ∈ l ∧ g = dcell (peer c ch) (rsem ch k)
  | [], h => absurd h (Nat.lt_irrefl 0)
  | o :: l, h => by
    have tail : 0 < owed c l g u → ∃ ch k, Op.rs ch k ∈ o :: l ∧ g = dcell (peer c ch) (rsem ch k) := fun h' => by
      obtain ⟨ch, k, hm, hg⟩ := owed_pos c g u l h'
      exact ⟨ch, k, List.mem_cons_of_mem _ hm, hg⟩
    cases o with
    | rs ch k =>
      by_cases h0 : 0 < owed c l g u
      · exact tail h0
      · refine ⟨ch, k, List.mem_cons_self, ?_⟩
        have h' : 0 < (owed c l + tallyAt (dcell (peer c ch) (rsem ch k)) () (units (.r ch k))) g u := h
        rw [Pi.add_apply, Finsupp.add_apply, Nat.eq_zero_of_not_pos h0, Nat.zero_add, tallyAt_apply] at h'
        by_contra hn
        rw [if_neg (fun hh => hn hh.1)] at h'
        exact Nat.lt_irrefl 0 h'
    | ls ch k => exact tail h
    | lw ch k => exact tail h
    | rw ch k => exact tail h
    | sw ch k => exact tail h
    | castA k => exact tail h
    | addR k => exact tail h

omit [FloatOps F] in
theorem mayWait (c : Dev nD) (sm : SemLoc sig) (n : ℕ) (l : List Op) (h : above n l = true) (hn : lv ((c : Thread nD τ), sm) () ≤ n) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by
      obtain ⟨ch, k, -, rfl⟩ := owed_pos c g u l hg
      rw [L_tc]; exact Finset.mem_singleton_self _)
    (fun p hp => by rw [Finset.mem_singleton.mp hp]; exact hn)
    (fun g u hg => by
      obtain ⟨ch, k, hm, rfl⟩ := owed_pos c g u l hg
      have h1 := List.all_eq_true.mp h _ hm
      show n < levR (key (rsem ch k))
      rw [key_rsem]
      exact decide_eq_true_iff.mp h1)

/-! ## What every device knows -/

abbrev cellAt (x : Dev nD × Option (DmaSem sig)) : GSem nD τ sig := match x.2 with
  | none => bcell x.1
  | some i => dcell x.1 i

def ctx (K : Dev nD × Option (DmaSem sig) → ℕ) : sProp 𝕄 :=
  iprop((bigSep Finset.univ fun x : Dev nD × Option (DmaSem sig) => cellInv ER (sched X) (K x) (cellAt x))
    ∗ (bigSep Finset.univ fun x : Dev nD × Option (DmaSem sig) => reached ER (cellAt x) 0) ∗ levAts L lv)

instance ctx_persistent (K : Dev nD × Option (DmaSem sig) → ℕ) : BI.Persistent (ctx X K) := by unfold ctx; infer_instance

theorem ctx_inv (K : Dev nD × Option (DmaSem sig) → ℕ) (x) : ctx X K ⊢ cellInv ER (sched X) (K x) (cellAt x) := by
  unfold ctx
  exact (show _ ⊢ (bigSep Finset.univ fun x : Dev nD × Option (DmaSem sig) => cellInv ER (sched X) (K x) (cellAt x)) from by
    iintro ⟨H, -, -⟩; iexact H).trans (bigSep_elim (Finset.mem_univ x))

theorem ctx_reached (K : Dev nD × Option (DmaSem sig) → ℕ) (x) : ctx X K ⊢ reached ER (cellAt x) 0 := by
  unfold ctx
  exact (show _ ⊢ (bigSep Finset.univ fun x : Dev nD × Option (DmaSem sig) => (reached ER (cellAt x) 0 : sProp 𝕄)) from by
    iintro ⟨-, H, -⟩; iexact H).trans (bigSep_elim (Finset.mem_univ x))

theorem ctx_lev (K : Dev nD × Option (DmaSem sig) → ℕ) : ctx X K ⊢ levAts L lv := by
  unfold ctx; iintro ⟨-, -, H⟩; iexact H

/-- What a device owes, whatever it has waited for. -/
def owesE (c : Dev nD) (O : CellTallies nD τ sig Unit) : sProp 𝕄 := iprop(∃ W : Waits sig Unit, owes (c : Thread nD τ) O W)

end Cert.AllReduce

end
-- ==== Proof.Rects.lean ====
/-
# Which elements the rectangles hold

Membership in each rectangle as inequalities on rows (or the slot number), and from it: chunks cut into halves, a
buffer into its chunks or slots, the result's rows into the quarters' chunks.
-/
module

public import proofs.«01_k».proof.Proof.Ops

@[expose] public section

noncomputable section

namespace Cert.AllReduce

open Cert.KernelIdeal
open Idealize.ShloMosaic Idealize.ShloMosaic.TcCoe

theorem mem_chunk (k : Fin 8) (i : S2048x1024.Idx) : i ∈ (rChunk k).set ↔ k.val * 256 ≤ (i 0).val ∧ (i 0).val < k.val * 256 + 256 := by
  rw [Rect.mem_set_unit]
  refine ⟨fun h => h 0, fun h a => ?_⟩
  match a with
  | ⟨0, _⟩ => exact h
  | ⟨1, _⟩ => exact ⟨Nat.zero_le _, by show (i 1).val < 0 + 1024; rw [Nat.zero_add]; exact (i 1).isLt⟩

theorem mem_half (k : Fin 8) (p : Fin 2) (i : S2048x1024.Idx) :
    i ∈ (rHalf k p).set ↔ k.val * 256 + p.val * 128 ≤ (i 0).val ∧ (i 0).val < k.val * 256 + p.val * 128 + 128 := by
  rw [Rect.mem_set_unit]
  refine ⟨fun h => h 0, fun h a => ?_⟩
  match a with
  | ⟨0, _⟩ => exact h
  | ⟨1, _⟩ => exact ⟨Nat.zero_le _, by show (i 1).val < 0 + 1024; rw [Nat.zero_add]; exact (i 1).isLt⟩

theorem mem_rows (q : Fin 4) (k : Fin 8) (i : S8192x1024.Idx) :
    i ∈ (rRows q k).set ↔ q.val * 2048 + k.val * 256 ≤ (i 0).val ∧ (i 0).val < q.val * 2048 + k.val * 256 + 256 := by
  rw [Rect.mem_set_unit]
  refine ⟨fun h => h 0, fun h a => ?_⟩
  match a with
  | ⟨0, _⟩ => exact h
  | ⟨1, _⟩ => exact ⟨Nat.zero_le _, by show (i 1).val < 0 + 1024; rw [Nat.zero_add]; exact (i 1).isLt⟩

theorem mem_rowsH (q : Fin 4) (k : Fin 8) (p : Fin 2) (i : S8192x1024.Idx) :
    i ∈ (rRowsH q k p).set ↔ q.val * 2048 + (k.val * 256 + p.val * 128) ≤ (i 0).val ∧ (i 0).val < q.val * 2048 + (k.val * 256 + p.val * 128) + 128 := by
  rw [Rect.mem_set_unit]
  refine ⟨fun h => h 0, fun h a => ?_⟩
  match a with
  | ⟨0, _⟩ => exact h
  | ⟨1, _⟩ => exact ⟨Nat.zero_le _, by show (i 1).val < 0 + 1024; rw [Nat.zero_add]; exact (i 1).isLt⟩

theorem mem_slot8 (k : Fin 8) (i : S8x256x1024.Idx) : i ∈ (rSlot8 k).set ↔ (i 0).val = k.val := by
  rw [Rect.mem_set_unit]
  refine ⟨fun h => by have h0 : k.val ≤ (i 0).val ∧ (i 0).val < k.val + 1 := h 0; omega, fun h a => ?_⟩
  match a with
  | ⟨0, _⟩ => exact ⟨Nat.le_of_eq h.symm, by show (i 0).val < k.val + 1; omega⟩
  | ⟨1, _⟩ => exact ⟨Nat.zero_le _, by show (i 1).val < 0 + 256; rw [Nat.zero_add]; exact (i 1).isLt⟩
  | ⟨2, _⟩ => exact ⟨Nat.zero_le _, by show (i 2).val < 0 + 1024; rw [Nat.zero_add]; exact (i 2).isLt⟩

theorem mem_slot6 (s : Fin 6) (i : S6x256x1024.Idx) : i ∈ (rSlot6 s).set ↔ (i 0).val = s.val := by
  rw [Rect.mem_set_unit]
  refine ⟨fun h => by have h0 : s.val ≤ (i 0).val ∧ (i 0).val < s.val + 1 := h 0; omega, fun h a => ?_⟩
  match a with
  | ⟨0, _⟩ => exact ⟨Nat.le_of_eq h.symm, by show (i 0).val < s.val + 1; omega⟩
  | ⟨1, _⟩ => exact ⟨Nat.zero_le _, by show (i 1).val < 0 + 256; rw [Nat.zero_add]; exact (i 1).isLt⟩
  | ⟨2, _⟩ => exact ⟨Nat.zero_le _, by show (i 2).val < 0 + 1024; rw [Nat.zero_add]; exact (i 2).isLt⟩

/-! ## Cuts -/

theorem chunk_eq_halves (k : Fin 8) : (rChunk k).set = (rHalf k 0).set ∪ (rHalf k 1).set := by
  ext i; rw [Finset.mem_union, mem_chunk, mem_half, mem_half]
  show _ ↔ (k.val * 256 + 0 * 128 ≤ _ ∧ _ < k.val * 256 + 0 * 128 + 128) ∨ (k.val * 256 + 1 * 128 ≤ _ ∧ _ < k.val * 256 + 1 * 128 + 128)
  omega
theorem halves_disj (k k' : Fin 8) (p p' : Fin 2) (h : k ≠ k' ∨ p ≠ p') : Disjoint (rHalf k p).set (rHalf k' p').set := by
  rw [Finset.disjoint_left]; intro i h1 h2
  rw [mem_half] at h1 h2
  rcases h with h | h
  · exact h (Fin.ext (by have := p.isLt; have := p'.isLt; omega))
  · exact h (Fin.ext (by have := p.isLt; have := p'.isLt; omega))

theorem chunks_disj (k k' : Fin 8) (h : k ≠ k') : Disjoint (rChunk k).set (rChunk k').set := by
  rw [Finset.disjoint_left]; intro i h1 h2
  rw [mem_chunk] at h1 h2
  exact h (Fin.ext (by omega))
theorem chunks_univ : (Finset.univ : Finset (Fin 8)).biUnion (fun k => (rChunk k).set) = Finset.univ := by
  ext i; rw [Finset.mem_biUnion]
  refine ⟨fun _ => Finset.mem_univ _, fun _ => ?_⟩
  have : (i 0).val < 2048 := (i 0).isLt
  exact ⟨⟨(i 0).val / 256, by omega⟩, Finset.mem_univ _, by rw [mem_chunk]; dsimp only; omega⟩

theorem slots8_disj (k k' : Fin 8) (h : k ≠ k') : Disjoint (rSlot8 k).set (rSlot8 k').set := by
  rw [Finset.disjoint_left]; intro i h1 h2
  rw [mem_slot8] at h1 h2
  exact h (Fin.ext (h1.symm.trans h2))
theorem slots8_univ : (Finset.univ : Finset (Fin 8)).biUnion (fun k => (rSlot8 k).set) = Finset.univ := by
  ext i; rw [Finset.mem_biUnion]
  exact ⟨fun _ => Finset.mem_univ _, fun _ => ⟨i 0, Finset.mem_univ _, (mem_slot8 _ _).mpr rfl⟩⟩

theorem slots6_disj (s s' : Fin 6) (h : s ≠ s') : Disjoint (rSlot6 s).set (rSlot6 s').set := by
  rw [Finset.disjoint_left]; intro i h1 h2
  rw [mem_slot6] at h1 h2
  exact h (Fin.ext (h1.symm.trans h2))
theorem slots6_univ : (Finset.univ : Finset (Fin 6)).biUnion (fun s => (rSlot6 s).set) = Finset.univ := by
  ext i; rw [Finset.mem_biUnion]
  exact ⟨fun _ => Finset.mem_univ _, fun _ => ⟨i 0, Finset.mem_univ _, (mem_slot6 _ _).mpr rfl⟩⟩

theorem rows_disj (q q' : Fin 4) (k k' : Fin 8) (h : q ≠ q' ∨ k ≠ k') : Disjoint (rRows q k).set (rRows q' k').set := by
  rw [Finset.disjoint_left]; intro i h1 h2
  rw [mem_rows] at h1 h2
  have := k.isLt; have := k'.isLt
  rcases h with h | h
  · exact h (Fin.ext (by omega))
  · exact h (Fin.ext (by omega))
theorem rows_univ : (Finset.univ : Finset (Fin 4 × Fin 8)).biUnion (fun x => (rRows x.1 x.2).set) = Finset.univ := by
  ext i; rw [Finset.mem_biUnion]
  refine ⟨fun _ => Finset.mem_univ _, fun _ => ?_⟩
  have : (i 0).val < 8192 := (i 0).isLt
  exact ⟨(⟨(i 0).val / 2048, by omega⟩, ⟨(i 0).val % 2048 / 256, by omega⟩), Finset.mem_univ _, by rw [mem_rows]; dsimp only; omega⟩
theorem rows_eq_halves (q : Fin 4) (k : Fin 8) : (rRows q k).set = (rRowsH q k 0).set ∪ (rRowsH q k 1).set := by
  ext i; rw [Finset.mem_union, mem_rows, mem_rowsH, mem_rowsH]
  show _ ↔ (q.val * 2048 + (k.val * 256 + 0 * 128) ≤ _ ∧ _ < q.val * 2048 + (k.val * 256 + 0 * 128) + 128)
    ∨ (q.val * 2048 + (k.val * 256 + 1 * 128) ≤ _ ∧ _ < q.val * 2048 + (k.val * 256 + 1 * 128) + 128)
  omega
theorem rowsH_disj (q : Fin 4) (k : Fin 8) : Disjoint (rRowsH q k 0).set (rRowsH q k 1).set := by
  rw [Finset.disjoint_left]; intro i h1 h2
  rw [mem_rowsH] at h1 h2
  have h1' : (i 0).val < q.val * 2048 + (k.val * 256 + 0 * 128) + 128 := h1.2
  have h2' : q.val * 2048 + (k.val * 256 + 1 * 128) ≤ (i 0).val := h2.1
  omega

end Cert.AllReduce

end
-- ==== Proof.Steps.lean ====
/-
# Every step does what the net says

For each kind of step: from the atoms `pre` names, the step runs and leaves the atoms `post` names.
-/
module

public import proofs.«01_k».proof.Proof.Own
public import proofs.«01_k».proof.Proof.Rects

@[expose] public section

noncomputable section

namespace Cert.AllReduce

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

abbrev 𝒱₀ : Variants := Variants.none

variable (X : Dev nD → S8192x1024.Idx → Elt F .f32)
variable (K : Dev nD × Option (DmaSem sig) → ℕ)
variable (c : Dev nD)

/-- The run of a program on device `c`. -/
abbrev runs (p : P F) (Ψ : PUnit.{1} → sProp 𝕄) : sProp 𝕄 :=
  wp frame (wpE (defs₀ (F := F)) 𝒱₀ (c : Thread nD τ) none) Set.univ p Ψ

/-- Contents that agree on the memref's elements. -/
theorem held_write {sp : Space} {s : Shape} {e : EltTy} (M : Memref sig .tc sp s e) (q : PosShare TreeShare)
    (f g : M.view.ty.Contents (Elt F)) (w : s.Idx → Elt F e) (h : M.view.read (Elt F) g = w) :
    held (F := F) c M q (M.view.write (Elt F) f w Finset.univ) = held c M q g := by
  unfold held
  exact pointsTo_congr (write_eq_of_read M.view f g w h)

variable (p : P F)

theorem sound_ls (Ψ : PUnit.{1} → sProp 𝕄) (ch : LCh) (k : Fin 8) :
    iprop(ctx X K ∗ sepA X c (pre (.ls ch k)) ∗ (sepA X c (post (.ls ch k)) -∗ runs c p Ψ))
      ⊢ runs c (step c (yOf c) (bOf c) p (.ls ch k)) Ψ := by
  unfold pre post
  simp only [sepA, den, piece, payee_l, held]
  iintro ⟨#HC, ⟨Hs, ⟨%fd, Hd⟩, Ht, ⟨Ha, #Hr⟩, -⟩, Hk⟩
  ihave #HI := (ctx_inv X K (c, some (lsem ch k))) $$ HC
  have hpay : iprop(held c (lx (yOf c) (bOf c) ch k).dst fullShare ((lx (yOf c) (bOf c) ch k).dst.view.write (Elt F) fd
          ((lx (yOf c) (bOf c) ch k).src.view.read (Elt F) (lsC X c ch k)) Finset.univ)
        ∗ held c (lx (yOf c) (bOf c) ch k).src (lq ch) (lsC X c ch k))
      ⊢ pieces X c (payload (key (lsem ch k)) (rnd ch k).val) := by
    rw [key_lsem, payload_l, held_write c _ _ _ (ldC X c ch k) _ (land_l X c ch k)]
    simp only [pieces, piece]
    iintro ⟨H1, H2⟩
    isplitl [H2]; · iexact H2
    isplitl [H1]; · iexact H1
    iempintro
  unfold step
  iapply (Rounds.wp_copy_pointsTo 𝒱₀ ER (sched X) (c : Thread nD τ) none (κ := K (c, some (lsem ch k))) (sem := .dma (lsem ch k))
    (r := (rnd ch k).val) (d := 0) (fs := lsC X c ch k) (fd := fd) (q := lq ch)
    (by rw [duties_d X c _ _ (rnd_lt ch k)]; exact Finset.mem_singleton_self _) () (units (key (lsem ch k)))
    ((units_l _ _ ch k).trans (congrArg units (key_lsem ch k).symm)) rfl
    hpay) $$ [Hs Hd Ht]
  · isplitr; · iexact HI
    isplitl [Hs]; · iexact Hs
    isplitl [Hd]; · iexact Hd
    isplitl [Ht]; · iexact Ht
    iexact Hr
  iintro Hc
  iapply Hk
  isplitl [Hc]; · iexact Hc
  isplitl [Ha]
  · isplitl [Ha]; · iexact Ha
    iexact Hr
  iempintro

set_option maxRecDepth 8000 in
/-- A wait for a semaphore's round `r`: its credit and place in, the payload and the next place out. -/
theorem sound_wait (Ψ : PUnit.{1} → sProp 𝕄) (i : DmaSem sig) (r : Fin 3) (l : List Op) (n : ℕ) {sp sp' : Space} {s s' : Shape} {e e' : EltTy}
    (src : Memref sig .tc sp s e) (dst : Memref sig .tc sp' s' e') (hsrc : src.view.WordExact) (hdst : dst.view.WordExact)
    (hr : r.val < rounds (key i)) (ha : dst.view.dmaCredit = units (key i)) (hl : above n l = true) (hn : levR (key i) ≤ n) :
    iprop(ctx X K ∗ (den X c (.crd i) ∗ den X c (.pos r i)) ∗ owesE c (owed c l)
        ∗ ((iprop(atPos ER (dcell c i) (r.val + 1) ∅ 0 ∗ reached ER (dcell c i) (r.val + 1)) ∗ pieces X c (payload (key i) r.val))
            -∗ owesE c (owed c l) -∗ runs c p Ψ))
      ⊢ runs c (.op (.waitDma2 i src dst hsrc hdst) fun _ => p) Ψ := by
  unfold owesE
  simp only [den]
  iintro ⟨#HC, ⟨Hcr, Ha, -⟩, ⟨%W, HO⟩, Hk⟩
  ihave #HI := (ctx_inv X K (c, some i)) $$ HC
  iapply (Rounds.wp_wait_rest_token 𝒱₀ ER (sched X) (c : Thread nD τ) none (κ := K (c, some i))
      (wpE_waitDma2_eq 𝒱₀ (c : Thread nD τ) none Set.univ) (Set.mem_univ _) () (O := owed c l) (W := W) (R := r.val) (m := 0) (T := ∅)
      (by rw [Nat.zero_add, expect_d X c i _ hr]; exact ha)) $$ [Hcr HO Ha]
  · isplitr; · iexact HI
    isplitl [Hcr]
    · iapply (Entails.of_eq (congrArg (fun N => (cred (tallyAt (dcell c i) () N) : sProp 𝕄)) ha.symm)); iexact Hcr
    isplitl [HO]; · iexact HO
    isplitr; · iapply ((ctx_lev X K).trans (mayWait c (.dma i) n l hl hn)); iexact HC
    iexact Ha
  iintro ⟨HO, Ha, Hr, Hpay⟩
  ihave Hp := (Entails.of_eq (rest_d X c i r.val hr)) $$ Hpay
  iapply Hk $$ [Ha Hr Hp] [HO]
  · isplitl [Ha Hr]
    · isplitl [Ha] <;> iassumption
    iexact Hp
  · iexists _; iexact HO

theorem sound_lw (Ψ : PUnit.{1} → sProp 𝕄) (ch : LCh) (k : Fin 8) (l : List Op) (hl : above 0 l = true) :
    iprop(ctx X K ∗ sepA X c (pre (.lw ch k)) ∗ owesE c (owed c l)
        ∗ (sepA X c (post (.lw ch k)) -∗ owesE c (owed c l) -∗ runs c p Ψ))
      ⊢ runs c (step c (yOf c) (bOf c) p (.lw ch k)) Ψ := by
  unfold pre post step
  simp only [sepA]
  iintro ⟨HC, ⟨H1, H2, -⟩, HO, Hk⟩
  iapply (sound_wait X K c p Ψ (lsem ch k) (rndA ch k) l 0 (lx (yOf c) (bOf c) ch k).src (lx (yOf c) (bOf c) ch k).dst _ _
    (rnd_lt ch k) ((units_l _ _ ch k).trans (congrArg units (key_lsem ch k).symm)) hl (by rw [key_lsem]; cases ch <;> exact Nat.le_refl 0))
  isplitl [HC]; · iexact HC
  isplitl [H1 H2]
  · isplitl [H1] <;> iassumption
  isplitl [HO]; · iexact HO
  iintro ⟨Ha, Hp⟩
  ihave Hp := (Entails.of_eq (congrArg (pieces X c) ((congrArg (fun a => payload a (rndA ch k).val) (key_lsem ch k)).trans (payload_l ch k)))) $$ Hp
  iapply Hk
  simp only [pieces, den, Fin.val_succ]
  icases Hp with ⟨Hs, Hd, -⟩
  isplitl [Hs]; · iexact Hs
  isplitl [Hd]; · iexact Hd
  isplitl [Ha]; · iexact Ha
  iempintro

theorem sound_rw (Ψ : PUnit.{1} → sProp 𝕄) (ch : RCh) (k : Fin 8) (l : List Op) (hl : above (rlev ch k) l = true) :
    iprop(ctx X K ∗ sepA X c (pre (.rw ch k)) ∗ owesE c (owed c l)
        ∗ (sepA X c (post (.rw ch k)) -∗ owesE c (owed c l) -∗ runs c p Ψ))
      ⊢ runs c (step c (yOf c) (bOf c) p (.rw ch k)) Ψ := by
  unfold pre post step
  simp only [sepA, sepA_atoms]
  iintro ⟨HC, ⟨H1, H2, -⟩, HO, Hk⟩
  iapply (sound_wait X K c p Ψ (rsem ch k) 0 l (rlev ch k) (rx ch k).src (rx ch k).dst _ _
    (by rw [key_rsem]; exact Nat.one_pos) (congrArg units (key_rsem ch k).symm) hl (by rw [key_rsem]; exact Nat.le_refl _))
  isplitl [HC]; · iexact HC
  isplitl [H1 H2]
  · isplitl [H1] <;> iassumption
  isplitl [HO]; · iexact HO
  iintro ⟨Ha, Hp⟩
  ihave Hp := (Entails.of_eq (congrArg (pieces X c) (congrArg (fun a => payload a (0 : Fin 3).val) (key_rsem ch k)))) $$ Hp
  iapply Hk
  simp only [den, Fin.val_zero, Fin.val_one]
  isplitl [Ha]; · iexact Ha
  iexact Hp

theorem sound_sw (Ψ : PUnit.{1} → sProp 𝕄) (ch : RCh) (k : Fin 8) (l : List Op) (hl : above 0 l = true) :
    iprop(ctx X K ∗ sepA X c (pre (.sw ch k)) ∗ owesE c (owed c l)
        ∗ (sepA X c (post (.sw ch k)) -∗ owesE c (owed c l) -∗ runs c p Ψ))
      ⊢ runs c (step c (yOf c) (bOf c) p (.sw ch k)) Ψ := by
  unfold pre post step
  simp only [sepA]
  iintro ⟨HC, ⟨H1, H2, -⟩, HO, Hk⟩
  iapply (sound_wait X K c p Ψ (ssem ch k) 0 l 0 (rx ch k).dst (rx ch k).src _ _
    (by rw [key_ssem]; exact Nat.one_pos) ((units_rsrc ch k).trans (congrArg units (key_ssem ch k).symm)) hl
    (by rw [key_ssem]; exact Nat.le_refl _))
  isplitl [HC]; · iexact HC
  isplitl [H1 H2]
  · isplitl [H1] <;> iassumption
  isplitl [HO]; · iexact HO
  iintro ⟨Ha, Hp⟩
  ihave Hp := (Entails.of_eq (congrArg (pieces X c) (congrArg (fun a => payload a (0 : Fin 3).val) (key_ssem ch k)))) $$ Hp
  iapply Hk
  unfold payload
  simp only [pieces, den]
  icases Hp with ⟨Hs, -⟩
  isplitl [Hs]; · iexact Hs
  isplitl [Ha]; · iexact Ha
  iempintro

/-! ## What lands -/

/-- A chunk is its two halves. -/
theorem held_halves (B : Memref sig .tc .vmem S2048x1024 .bf16) (k : Fin 8) (q : PosShare TreeShare) (f : B.view.ty.Contents (Elt F)) :
    held c (mChunk B k) q f = iprop(held c (mHalf B k 0) q f ∗ held c (mHalf B k 1) q f) := by
  have hs : (mChunk B k).view.set = (mHalf B k 0).view.set ∪ (mHalf B k 1).view.set := by
    show (B.view.slice (rChunk k)).set = (B.view.slice (rHalf k 0)).set ∪ (B.view.slice (rHalf k 1)).set
    rw [View.set_slice, View.set_slice, View.set_slice, chunk_eq_halves]
    exact Finset.map_union _ _
  have hd : Disjoint (mHalf B k 0).view.set (mHalf B k 1).view.set := by
    show Disjoint (B.view.slice (rHalf k 0)).set (B.view.slice (rHalf k 1)).set
    rw [View.set_slice, View.set_slice]
    exact (Finset.disjoint_map _).mpr (halves_disj k k 0 1 (Or.inr (by decide)))
  unfold held
  rw [hs]
  exact BI.equiv_iff.mp ⟨(pointsTo_union hd).1, (pointsTo_union hd).2⟩

theorem held_share {sp : Space} {s : Shape} {e : EltTy} (M : Memref sig .tc sp s e) (f : M.view.ty.Contents (Elt F)) (q : PosShare TreeShare) :
    held c M q f = iprop(held c M q.left f ∗ held c M q.right f) := by
  unfold held
  exact BI.equiv_iff.mp ⟨(pointsTo_share (PosShare.mem_left_op_right q)).1, (pointsTo_share (PosShare.mem_left_op_right q)).2⟩

theorem held_thirds {sp : Space} {s : Shape} {e : EltTy} (M : Memref sig .tc sp s e) (f : M.view.ty.Contents (Elt F)) (q : PosShare TreeShare) :
    held c M q f = iprop(held c M (shares3 q 0) f ∗ held c M (shares3 q 1) f ∗ held c M (shares3 q 2) f) := by
  unfold held
  exact BI.equiv_iff.mp ⟨(pointsTo_thirds q _).1, (pointsTo_thirds q _).2⟩

/-- What an arrival's destination holds is what its payload lists. -/
theorem landed_pieces (ch : RCh) (k : Fin 8) : held c (rx ch k).dst fullShare (rdC X c ch k) ⊢ pieces X c (payload (.r ch k) 0) := by
  cases ch
  case A =>
    show held c (mChunk commA k) fullShare (tab (aT X (xp c))) ⊢ iprop(held c (mChunk commA k) fullShare (tab (aT X (xp c))) ∗ emp)
    iintro H; isplitl [H]; · iexact H
    iempintro
  case Y =>
    show held c (mChunk commY k) fullShare (tab (sT X (yp c)))
      ⊢ iprop(held c (mChunk commY k) fullShare.left (tab (sT X (yp c))) ∗ held c (mHalf commY k 1) fullShare.right (tab (sT X (yp c)))
          ∗ held c (mHalf commY k 0) fullShare.right (tab (sT X (yp c))) ∗ emp)
    rw [held_share c (mChunk commY k), held_halves c commY k fullShare.right]
    iintro ⟨H1, H2, H3⟩
    isplitl [H1]; · iexact H1
    isplitl [H3]; · iexact H3
    isplitl [H2]; · iexact H2
    iempintro
  case Z =>
    show held c (mChunk commZ k) fullShare (tab (sT X (zp c)))
      ⊢ iprop(held c (mChunk commZ k) fullShare.left (tab (sT X (zp c))) ∗ held c (mHalf commZ k 0) fullShare.right (tab (sT X (zp c)))
          ∗ held c (mHalf commZ k 1) fullShare.right (tab (sT X (zp c))) ∗ emp)
    rw [held_share c (mChunk commZ k), held_halves c commZ k fullShare.right]
    iintro ⟨H1, H2, H3⟩
    isplitl [H1]; · iexact H1
    isplitl [H2]; · iexact H2
    isplitl [H3]; · iexact H3
    iempintro
  case FY =>
    show held c (mHalf commD k 0) fullShare (tab (sT X (zp (yp c)))) ⊢ iprop(held c (mHalf commD k 0) fullShare (tab (sT X (zp (yp c)))) ∗ emp)
    iintro H; isplitl [H]; · iexact H
    iempintro
  case FZ =>
    show held c (mHalf commD k 1) fullShare (tab (sT X (zp (yp c)))) ⊢ iprop(held c (mHalf commD k 1) fullShare (tab (sT X (zp (yp c)))) ∗ emp)
    iintro H; isplitl [H]; · iexact H
    iempintro

theorem sound_rs (Ψ : PUnit.{1} → sProp 𝕄) (ch : RCh) (k : Fin 8) (l : List Op) :
    iprop(ctx X K ∗ sepA X c (pre (.rs ch k)) ∗ owesE c (owed c (.rs ch k :: l))
        ∗ (sepA X c (post (.rs ch k)) -∗ owesE c (owed c l) -∗ runs c p Ψ))
      ⊢ runs c (step c (yOf c) (bOf c) p (.rs ch k)) Ψ := by
  unfold pre post step owesE
  simp only [sepA, den, piece, payee_s, payee_r, held]
  iintro ⟨#HC, ⟨Hs, ⟨%fd, Hd⟩, Ht1, Ht2, -⟩, ⟨%W, HO⟩, Hk⟩
  ihave #HI1 := (ctx_inv X K (c, some (ssem ch k))) $$ HC
  ihave #HI2 := (ctx_inv X K (peer c ch, some (rsem ch k))) $$ HC
  ihave #HR1 := (ctx_reached X K (c, some (ssem ch k))) $$ HC
  ihave #HR2 := (ctx_reached X K (peer c ch, some (rsem ch k))) $$ HC
  have hpay₁ : held c (rx ch k).src (rq ch) (rsC X c ch k) ⊢ pieces X c (payload (key (ssem ch k)) 0) := by
    rw [key_ssem]
    simp only [payload, pieces, piece]
    iintro H; isplitl [H]; · iexact H
    iempintro
  have hpay₂ : held (peer c ch) (rx ch k).dst fullShare ((rx ch k).dst.view.write (Elt F) fd ((rx ch k).src.view.read (Elt F) (rsC X c ch k)) Finset.univ)
      ⊢ pieces X (peer c ch) (payload (key (rsem ch k)) 0) := by
    rw [key_rsem, held_write (peer c ch) _ _ _ (rdC X (peer c ch) ch k) _ (land_r X c ch k)]
    exact landed_pieces X (peer c ch) ch k
  iapply (Rounds.wp_send_pointsTo 𝒱₀ ER (sched X) (c : Thread nD τ) none (κ₁ := K (c, some (ssem ch k)))
    (κ₂ := K (peer c ch, some (rsem ch k))) (sS := .dma (ssem ch k)) (sem := .dma (rsem ch k)) (c' := (peer c ch : Thread nD τ))
    (r₁ := 0) (r₂ := 0) (d₁ := 0) (d₂ := 0) (fs := rsC X c ch k) (fd := fd) (q := rq ch)
    (by rw [duties_d X c _ _ (by rw [key_ssem]; exact Nat.one_pos)]; exact Finset.mem_singleton_self _)
    (by rw [duties_d X _ _ _ (by rw [key_rsem]; exact Nat.one_pos)]; exact Finset.mem_singleton_self _)
    () () (units (.r ch k)) rfl
    ((congrArg units (key_ssem ch k)).trans (rfl : units (.s ch k) = units (.r ch k))) (congrArg units (key_rsem ch k)) (owed c l) rfl (W := W)
    hpay₁ hpay₂) $$ [Hs Hd Ht1 Ht2 HO]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk $$ [Hc] [HO]
  · isplitl [Hc]
    · iapply (Entails.of_eq (congrArg (fun a => (cred (tallyAt (dcell c (ssem ch k)) () (units a)) : sProp 𝕄)) (key_ssem ch k)).symm)
      iexact Hc
    iempintro
  · iexists _; iexact HO

/-! ## The two computations -/

theorem held_sendA (k : Fin 8) (q : PosShare TreeShare) (f : Buf (Elt F) ((Memref.whole cc0_scratch5).view.loc (c : Thread nD τ))) :
    held c (mSendA k) q f
      = ((((Memref.whole cc0_scratch5).access (rSlot8 k)).loc (c : Thread nD τ)) ↦[((Memref.whole cc0_scratch5).access (rSlot8 k)).set]{q} f : sProp 𝕄) := by
  unfold held
  rw [show (mSendA k).view.set = ((Memref.whole cc0_scratch5).access (rSlot8 k)).set from View.set_reshape _ _]

theorem held_xf (s : Fin 6) (q : PosShare TreeShare) (f : Buf (Elt F) ((Memref.whole cc0_scratch6).view.loc (c : Thread nD τ))) :
    held c (mXf s) q f
      = ((((Memref.whole cc0_scratch6).access (rSlot6 s)).loc (c : Thread nD τ)) ↦[((Memref.whole cc0_scratch6).access (rSlot6 s)).set]{q} f : sProp 𝕄) := by
  unfold held
  rw [show (mXf s).view.set = ((Memref.whole cc0_scratch6).access (rSlot6 s)).set from View.set_reshape _ _]

/-- The slot chunk `k` was in is free for the next chunk. -/
theorem held_next (k : Fin 8) (f : Buf (Elt F) ((Memref.whole cc0_scratch6).view.loc (c : Thread nD τ))) :
    held c (mXf (sl k)) fullShare f ⊢ piece X c (.le .X) (nx k) := by
  have h : ∀ s, s = sl k → held c (mXf (sl k)) fullShare f ⊢ (iprop(∃ f, held c (mXf s) fullShare f) : sProp 𝕄) := by
    rintro _ rfl
    iintro H; iexists f; iexact H
  exact h (sl (nx k)) (by clear h f; revert k; decide)

theorem sound_castA (Ψ : PUnit.{1} → sProp 𝕄) (k : Fin 8) :
    iprop(sepA X c (pre (.castA k)) ∗ (sepA X c (post (.castA k)) -∗ runs c p Ψ))
      ⊢ runs c (step c (yOf c) (bOf c) p (.castA k)) Ψ := by
  have e1 : piece X c (.lf .X) k = held c (mXf (sl k)) fullShare (slotsAt (xq X c) k.val) := rfl
  have e2 : piece X c .se k = iprop(∃ f, held c (mSendA k) fullShare f) := rfl
  have e3 : piece X c (.rs .A) k = held c (mSendA k) fullShare.left (slots (aT X c)) := rfl
  have e4 : piece X c .sb k = held c (mSendA k) fullShare.right (slots (aT X c)) := rfl
  unfold pre post
  simp only [sepA, den]
  rw [e1, e2, e3, e4]
  iintro ⟨⟨Hx, ⟨%f, Hs⟩, -⟩, Hk⟩
  unfold step
  ihave Hx := (Entails.of_eq (held_xf c (sl k) fullShare (slotsAt (xq X c) k.val))) $$ Hx
  ihave Hs := (Entails.of_eq (held_sendA c k fullShare f)) $$ Hs
  iapply (wp_load_rect 𝒱₀ (c : Thread nD τ) none Set.univ (m := Memref.whole cc0_scratch6) (r := rSlot6 (sl k)) (subset_refl _)) $$ [Hx]
  · iexact Hx
  iintro Hx
  iapply (wp_load_rect 𝒱₀ (c : Thread nD τ) none Set.univ (m := Memref.whole cc0_scratch5) (r := rSlot8 k) (subset_refl _)) $$ [Hs]
  · iexact Hs
  iintro Hs
  iapply (wp_store 𝒱₀ (c : Thread nD τ) none Set.univ (m := Memref.whole cc0_scratch5) (r := rSlot8 k) (Mk := Finset.univ)
    (S := ((Memref.whole cc0_scratch5).access (rSlot8 k)).set) (f := f) (subset_refl _)) $$ [Hs]
  · iexact Hs
  iintro Hs
  ihave Hs := (Entails.of_eq (pointsTo_congr (write_eq_of_read ((Memref.whole cc0_scratch5).access (rSlot8 k)) f (slots (aT X c)) _ (cast_eq X c k)))) $$ Hs
  ihave Hs := (Entails.of_eq (held_sendA c k fullShare (slots (aT X c))).symm) $$ Hs
  ihave Hs := (Entails.of_eq (held_share c (mSendA k) (slots (aT X c)) fullShare)) $$ Hs
  icases Hs with ⟨H1, H2⟩
  iapply Hk
  isplitl [Hx]
  · iapply (held_next X c k (slotsAt (xq X c) k.val))
    iapply (Entails.of_eq (held_xf c (sl k) fullShare (slotsAt (xq X c) k.val)).symm)
    iexact Hx
  isplitl [H1]; · iexact H1
  isplitl [H2]; · iexact H2
  iempintro

theorem sound_addR (Ψ : PUnit.{1} → sProp 𝕄) (k : Fin 8) :
    iprop(sepA X c (pre (.addR k)) ∗ (sepA X c (post (.addR k)) -∗ runs c p Ψ))
      ⊢ runs c (step c (yOf c) (bOf c) p (.addR k)) Ψ := by
  have e1 : piece X c .sb k = held c (mSendA k) fullShare.right (slots (aT X c)) := rfl
  have e2 : piece X c .ca k = held c (mChunk commA k) fullShare (tab (aT X (xp c))) := rfl
  have e3 : piece X c .sr k = iprop(∃ f, held c (mChunk sendR k) fullShare f) := rfl
  have e4 : piece X c (.rs .Y) k = held c (mChunk sendR k) (shares3 fullShare 0) (tab (sT X c)) := rfl
  have e5 : piece X c (.rs .Z) k = held c (mChunk sendR k) (shares3 fullShare 1) (tab (sT X c)) := rfl
  have e6 : piece X c (.ls .O) k = held c (mChunk sendR k) (shares3 fullShare 2) (tab (sT X c)) := rfl
  unfold pre post
  simp only [sepA, den]
  rw [e1, e2, e3, e4, e5, e6]
  iintro ⟨⟨Hb, Ha, ⟨%f, Hs⟩, -⟩, Hk⟩
  unfold step
  ihave Hb := (Entails.of_eq (held_sendA c k fullShare.right (slots (aT X c)))) $$ Hb
  iapply (wp_load_rect 𝒱₀ (c : Thread nD τ) none Set.univ (m := Memref.whole cc0_scratch5) (r := rSlot8 k) (subset_refl _)) $$ [Hb]
  · iexact Hb
  iintro Hb
  ihave Hb := (Entails.of_eq (held_sendA c k fullShare.right (slots (aT X c))).symm) $$ Hb
  iapply (wp_load_rect 𝒱₀ (c : Thread nD τ) none Set.univ (m := commA) (r := rChunk k) (S := (mChunk commA k).view.set)
    (q := fullShare) (f := tab (aT X (xp c))) (subset_refl _)) $$ [Ha]
  · unfold held; iexact Ha
  iintro Ha
  iapply (wp_load_rect 𝒱₀ (c : Thread nD τ) none Set.univ (m := sendR) (r := rChunk k) (S := (mChunk sendR k).view.set)
    (q := fullShare) (f := f) (subset_refl _)) $$ [Hs]
  · unfold held; iexact Hs
  iintro Hs
  iapply (wp_store 𝒱₀ (c : Thread nD τ) none Set.univ (m := sendR) (r := rChunk k) (Mk := Finset.univ) (S := (mChunk sendR k).view.set)
    (f := f) (subset_refl _)) $$ [Hs]
  · iexact Hs
  iintro Hs
  ihave Hs := (Entails.of_eq (pointsTo_congr (write_eq_of_read (sendR.access (rChunk k)) f (tab (sT X c)) _ (add_eq X c k)))) $$ Hs
  have e7 := held_thirds c (mChunk sendR k) (tab (sT X c)) fullShare
  unfold held at e7
  ihave Hs := (Entails.of_eq e7) $$ Hs
  icases Hs with ⟨H0, H1, H2⟩
  iapply Hk
  unfold held
  isplitl [Hb]; · iexact Hb
  isplitl [Ha]; · iexact Ha
  isplitl [H0]; · iexact H0
  isplitl [H1]; · iexact H1
  isplitl [H2]; · iexact H2
  iempintro

/-! ## All steps -/

theorem sound_step (Ψ : PUnit.{1} → sProp 𝕄) (o : Op) (l : List Op) (hl : waitsOk o l = true) :
    iprop(ctx X K ∗ sepA X c (pre o) ∗ owesE c (owed c (o :: l))
        ∗ (sepA X c (post o) -∗ owesE c (owed c l) -∗ runs c p Ψ))
      ⊢ runs c (step c (yOf c) (bOf c) p o) Ψ := by
  cases o with
  | ls ch k =>
    show iprop(ctx X K ∗ sepA X c (pre (.ls ch k)) ∗ owesE c (owed c l) ∗ _) ⊢ _
    iintro ⟨HC, Hp, HO, Hk⟩
    iapply (sound_ls X K c p Ψ ch k)
    isplitl [HC]; · iexact HC
    isplitl [Hp]; · iexact Hp
    iintro Hq
    iapply Hk $$ [Hq] [HO] <;> iassumption
  | lw ch k => exact sound_lw X K c p Ψ ch k l hl
  | rs ch k => exact sound_rs X K c p Ψ ch k l
  | rw ch k => exact sound_rw X K c p Ψ ch k l hl
  | sw ch k => exact sound_sw X K c p Ψ ch k l hl
  | castA k =>
    show iprop(ctx X K ∗ sepA X c (pre (.castA k)) ∗ owesE c (owed c l) ∗ _) ⊢ _
    iintro ⟨-, Hp, HO, Hk⟩
    iapply (sound_castA X c p Ψ k)
    isplitl [Hp]; · iexact Hp
    iintro Hq
    iapply Hk $$ [Hq] [HO] <;> iassumption
  | addR k =>
    show iprop(ctx X K ∗ sepA X c (pre (.addR k)) ∗ owesE c (owed c l) ∗ _) ⊢ _
    iintro ⟨-, Hp, HO, Hk⟩
    iapply (sound_addR X c p Ψ k)
    isplitl [Hp]; · iexact Hp
    iintro Hq
    iapply Hk $$ [Hq] [HO] <;> iassumption

/-- A list of steps the net lets through, run from what the atoms `s` say, ends with what `s'` say. -/
theorem sound_run (Ψ : PUnit.{1} → sProp 𝕄) (s s' : ℕ) (l : List Op) (h : exec s l = some s') :
    iprop(ctx X K ∗ Own X c s ∗ owesE c (owed c l) ∗ (Own X c s' -∗ owesE c (owed c []) -∗ Ψ ⟨⟩))
      ⊢ runs c (run c (yOf c) (bOf c) l) Ψ := by
  induction l generalizing s with
  | nil =>
    obtain rfl : s = s' := by simpa [exec] using h
    unfold run
    iintro ⟨-, Ho, HO, Hk⟩
    unfold runs
    rw [wp_ret]
    imodintro
    iapply Hk $$ [Ho] [HO] <;> iassumption
  | cons o l ih =>
    unfold exec at h
    split at h
    case isFalse => exact absurd h (by simp)
    case isTrue hw =>
      obtain ⟨t, ht, h'⟩ := Option.bind_eq_some_iff.mp h
      obtain ⟨R, e1, e2⟩ := own_fire X c ht
      have ih' := ih t h'
      rw [e2] at ih'
      rw [e1]
      unfold run
      iintro ⟨#HC, ⟨Hp, HR⟩, HO, Hk⟩
      iapply (sound_step X K c _ Ψ o l hw)
      isplitr; · iexact HC
      isplitl [Hp]; · iexact Hp
      isplitl [HO]; · iexact HO
      iintro Hq HO
      iapply ih'
      isplitr; · iexact HC
      isplitl [Hq HR]
      · isplitl [Hq] <;> iassumption
      isplitl [HO]; · iexact HO
      iexact Hk

end Cert.AllReduce

end
-- ==== Proof.Memory.lean ====
/-
# The buffers as pieces

Each buffer is cut into the chunks, halves and slots the steps work on, and put together again at the end.
-/
module

public import proofs.«01_k».proof.Proof.Steps
public import Idealize.ShloMosaic.Lib.Pipeline.BigSepL

@[expose] public section

noncomputable section

namespace Cert.AllReduce

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (X : Dev nD → S8192x1024.Idx → Elt F .f32)
variable (c : Dev nD)

/-! ## A buffer and a family of its rectangles -/

section Parts

variable {sp : Space} {s : Shape} {e : EltTy} (B : Memref sig .tc sp s e) (hB : B.view.set = Finset.univ)

/-- The buffer's elements under a rectangle. -/
abbrev cut (R : Rect s) : Finset (Idx (B.view.loc (c : Thread nD τ))) := (B.view.slice R).set

variable {I : Type} [Fintype I] [DecidableEq I] [Nonempty I] (r : I → Rect s)
variable (hd : ∀ i j, i ≠ j → Disjoint (r i).set (r j).set) (hu : ∀ x : s.Idx, ∃ i, x ∈ (r i).set)

include hd in
theorem cut_disj (i j : I) (h : i ≠ j) : Disjoint (cut c B (r i)) (cut c B (r j)) := by
  show Disjoint (B.view.slice (r i)).set (B.view.slice (r j)).set
  rw [View.set_slice, View.set_slice]
  exact (Finset.disjoint_map _).mpr (hd i j h)

include hB hu in
theorem cut_cover : Finset.univ.biUnion (fun i => cut c B (r i)) = Finset.univ := by
  ext x
  refine ⟨fun _ => Finset.mem_univ _, fun _ => ?_⟩
  have hx : (x : B.view.ty.Idx) ∈ B.view.set := by rw [hB]; exact Finset.mem_univ _
  obtain ⟨y, -, hy⟩ := Finset.mem_map.mp hx
  obtain ⟨i, hi⟩ := hu y
  refine Finset.mem_biUnion.mpr ⟨i, Finset.mem_univ i, ?_⟩
  show x ∈ (B.view.slice (r i)).set
  rw [View.set_slice, ← hy]
  exact Finset.mem_map_of_mem _ hi

include hB hd hu in
theorem parts (f : Buf (Elt F) (B.view.loc (c : Thread nD τ))) :
    ((B.view.loc (c : Thread nD τ)) ↦{fullShare} f : sProp 𝕄)
      = bigSep Finset.univ fun i => ((B.view.loc (c : Thread nD τ)) ↦[cut c B (r i)]{fullShare} f) := by
  have h := pointsTo_biUnion (ℓ := B.view.loc (c : Thread nD τ)) (q := fullShare) (f := f) (Ix := Unit) (Name := ℕ) (U := UU) (Lvl := ℕ)
    Finset.univ (fun i => cut c B (r i)) (fun i _ j _ h => cut_disj c B r hd i j h)
  rw [cut_cover c B hB r hu] at h
  exact h

include hB hd hu in
theorem some_split :
    (iprop(∃ f, (B.view.loc (c : Thread nD τ)) ↦{fullShare} f) : sProp 𝕄)
      ⊢ bigSep Finset.univ fun i => iprop(∃ f, (B.view.loc (c : Thread nD τ)) ↦[cut c B (r i)]{fullShare} f) := by
  iintro ⟨%f, H⟩
  have h : ∀ i ∈ (Finset.univ : Finset I), ((B.view.loc (c : Thread nD τ)) ↦[cut c B (r i)]{fullShare} f : sProp 𝕄)
      ⊢ iprop(∃ f, (B.view.loc (c : Thread nD τ)) ↦[cut c B (r i)]{fullShare} f) := fun i _ => by
    iintro H; iexists f; iexact H
  iapply ((Entails.of_eq (parts c B hB r hd hu f)).trans (bigSep_mono h))
  iexact H

include hB hd hu in
theorem some_join :
    (bigSep Finset.univ fun i => iprop(∃ f, (B.view.loc (c : Thread nD τ)) ↦[cut c B (r i)]{fullShare} f))
      ⊢ (iprop(∃ f, (B.view.loc (c : Thread nD τ)) ↦{fullShare} f) : sProp 𝕄) := by
  have hne : Nonempty (Buf (Elt F) (B.view.loc (c : Thread nD τ))) := ⟨fun _ => Classical.arbitrary _⟩
  iintro H
  ihave H := (BI.bigSep_exists_pi Finset.univ (fun (i : I) (f : Buf (Elt F) (B.view.loc (c : Thread nD τ))) =>
    ((B.view.loc (c : Thread nD τ)) ↦[cut c B (r i)]{fullShare} f : sProp 𝕄))) $$ H
  icases H with ⟨%fs, H⟩
  ihave H := (pointsTo_biUnion_join Finset.univ (fun i => cut c B (r i)) fs (fs (Classical.arbitrary I))
    (fun i _ j _ h => cut_disj c B r hd i j h)) $$ H
  icases H with ⟨%g, -, H⟩
  rw [cut_cover c B hB r hu]
  iexists g; iexact H

end Parts

/-- A memref's elements at some contents. -/
abbrev free (c : Dev nD) {sp : Space} {s : Shape} {e : EltTy} (M : Memref sig .tc sp s e) : sProp 𝕄 := iprop(∃ f, held c M fullShare f)

/-- A whole buffer at some contents. -/
abbrev freeBuf (c : Dev nD) (b : Ref sig .tc) : sProp 𝕄 :=
  iprop(∃ f : Buf (Elt F) ((c : Thread nD τ).loc b), ((c : Thread nD τ).loc b) ↦{fullShare} f)

theorem chunks_all (x : S2048x1024.Idx) : ∃ k, x ∈ (rChunk k).set := by
  have h : x ∈ (Finset.univ : Finset (Fin 8)).biUnion (fun k => (rChunk k).set) := by rw [chunks_univ]; exact Finset.mem_univ x
  obtain ⟨k, -, h⟩ := Finset.mem_biUnion.mp h
  exact ⟨k, h⟩
theorem halves_all (x : S2048x1024.Idx) : ∃ kp : Fin 8 × Fin 2, x ∈ (rHalf kp.1 kp.2).set := by
  obtain ⟨k, h⟩ := chunks_all x
  rw [chunk_eq_halves] at h
  rcases Finset.mem_union.mp h with h | h
  · exact ⟨(k, 0), h⟩
  · exact ⟨(k, 1), h⟩
theorem slots8_all (x : S8x256x1024.Idx) : ∃ k, x ∈ (rSlot8 k).set := ⟨x 0, (mem_slot8 _ _).mpr rfl⟩
theorem slots6_all (x : S6x256x1024.Idx) : ∃ k, x ∈ (rSlot6 k).set := ⟨x 0, (mem_slot6 _ _).mpr rfl⟩
theorem rows_all (x : S8192x1024.Idx) : ∃ qk : Fin 4 × Fin 8, x ∈ (rRows qk.1 qk.2).set := by
  have h : x ∈ (Finset.univ : Finset (Fin 4 × Fin 8)).biUnion (fun x => (rRows x.1 x.2).set) := by rw [rows_univ]; exact Finset.mem_univ x
  obtain ⟨k, -, h⟩ := Finset.mem_biUnion.mp h
  exact ⟨k, h⟩

theorem ne_pair {α β : Type} {x y : α × β} (h : x ≠ y) : x.1 ≠ y.1 ∨ x.2 ≠ y.2 := by
  by_contra hn
  rw [not_or, not_not, not_not] at hn
  exact h (Prod.ext hn.1 hn.2)

/-! ## The landing and sending buffers -/

theorem chunks_split (B : Memref sig .tc .vmem S2048x1024 .bf16) (hB : B.view.set = Finset.univ) :
    (iprop(∃ f, (B.view.loc (c : Thread nD τ)) ↦{fullShare} f) : sProp 𝕄) ⊢ bigSep Finset.univ fun k => free c (mChunk B k) :=
  some_split c B hB rChunk chunks_disj chunks_all
theorem chunks_join (B : Memref sig .tc .vmem S2048x1024 .bf16) (hB : B.view.set = Finset.univ) :
    (bigSep Finset.univ fun k => free c (mChunk B k)) ⊢ (iprop(∃ f, (B.view.loc (c : Thread nD τ)) ↦{fullShare} f) : sProp 𝕄) :=
  some_join c B hB rChunk chunks_disj chunks_all

theorem halves_split : freeBuf c cc0_scratch4
    ⊢ (iprop((bigSep Finset.univ fun k => free c (mHalf commD k 0)) ∗ bigSep Finset.univ fun k => free c (mHalf commD k 1)) : sProp 𝕄) := by
  rw [← bigSep_sep']
  refine (some_split c commD (View.set_whole _) (fun kp : Fin 8 × Fin 2 => rHalf kp.1 kp.2)
    (fun i j h => halves_disj _ _ _ _ (ne_pair h)) halves_all).trans (Entails.of_eq ?_)
  rw [bigSep_univ_prod]
  exact bigSep_congr fun k _ => bigSep_univ_eq_bigSepL ([0, 1] : List (Fin 2)) (by decide) (by decide) _
theorem halves_join : (iprop((bigSep Finset.univ fun k => free c (mHalf commD k 0)) ∗ bigSep Finset.univ fun k => free c (mHalf commD k 1)) : sProp 𝕄)
    ⊢ freeBuf c cc0_scratch4 := by
  rw [← bigSep_sep']
  have h : bigSep Finset.univ (fun kp : Fin 8 × Fin 2 => (free c (mHalf commD kp.1 kp.2) : sProp 𝕄))
      = bigSep Finset.univ fun k => iprop(free c (mHalf commD k 0) ∗ free c (mHalf commD k 1)) := by
    rw [bigSep_univ_prod]
    exact bigSep_congr fun k _ => bigSep_univ_eq_bigSepL ([0, 1] : List (Fin 2)) (by decide) (by decide) _
  rw [← h]
  exact some_join c commD (View.set_whole _) (fun kp : Fin 8 × Fin 2 => rHalf kp.1 kp.2)
    (fun i j h => halves_disj _ _ _ _ (ne_pair h)) halves_all

/-! ## The slots -/

theorem free_sendA (k : Fin 8) :
    free (F := F) c (mSendA k) = iprop(∃ f, ((Memref.whole cc0_scratch5).view.loc (c : Thread nD τ)) ↦[cut c (Memref.whole cc0_scratch5) (rSlot8 k)]{fullShare} f) := by
  exact congrArg (fun Φ : Buf (Elt F) ((Memref.whole cc0_scratch5).view.loc (c : Thread nD τ)) → sProp 𝕄 => iprop(∃ f, Φ f))
    (funext fun f => held_sendA c k fullShare f)
theorem free_xf (k : Fin 6) :
    free (F := F) c (mXf k) = iprop(∃ f, ((Memref.whole cc0_scratch6).view.loc (c : Thread nD τ)) ↦[cut c (Memref.whole cc0_scratch6) (rSlot6 k)]{fullShare} f) := by
  exact congrArg (fun Φ : Buf (Elt F) ((Memref.whole cc0_scratch6).view.loc (c : Thread nD τ)) → sProp 𝕄 => iprop(∃ f, Φ f))
    (funext fun f => held_xf c k fullShare f)

theorem slots8_split : freeBuf c cc0_scratch5 ⊢ (bigSep Finset.univ fun k => free c (mSendA k) : sProp 𝕄) := by
  rw [show (fun k => (free c (mSendA k) : sProp 𝕄)) = _ from funext (free_sendA c)]
  exact some_split c (Memref.whole cc0_scratch5) (View.set_whole _) rSlot8 slots8_disj slots8_all
theorem slots8_join : (bigSep Finset.univ fun k => free c (mSendA k) : sProp 𝕄) ⊢ freeBuf c cc0_scratch5 := by
  rw [show (fun k => (free c (mSendA k) : sProp 𝕄)) = _ from funext (free_sendA c)]
  exact some_join c (Memref.whole cc0_scratch5) (View.set_whole _) rSlot8 slots8_disj slots8_all
theorem slots6_split : freeBuf c cc0_scratch6 ⊢ (bigSep Finset.univ fun k => free c (mXf k) : sProp 𝕄) := by
  rw [show (fun k => (free c (mXf k) : sProp 𝕄)) = _ from funext (free_xf c)]
  exact some_split c (Memref.whole cc0_scratch6) (View.set_whole _) rSlot6 slots6_disj slots6_all
theorem slots6_join : (bigSep Finset.univ fun k => free c (mXf k) : sProp 𝕄) ⊢ freeBuf c cc0_scratch6 := by
  rw [show (fun k => (free c (mXf k) : sProp 𝕄)) = _ from funext (free_xf c)]
  exact some_join c (Memref.whole cc0_scratch6) (View.set_whole _) rSlot6 slots6_disj slots6_all

/-! ## The argument's and the result's rows -/

theorem quarters (y b : Fin 2) (Φ : Fin 4 → sProp 𝕄) :
    bigSep Finset.univ Φ = iprop(Φ (qO y b) ∗ Φ (qY y b) ∗ Φ (qZ y b) ∗ Φ (qD y b)) :=
  bigSep_univ_eq_bigSepL [qO y b, qY y b, qZ y b, qD y b] (by revert y b; decide) (by revert y b; decide) Φ

/-- The argument, by quarters and chunks. -/
theorem x_rows (f : Buf (Elt F) ((c : Thread nD τ).loc main_arg0)) :
    (((c : Thread nD τ).loc main_arg0) ↦{fullShare} f : sProp 𝕄)
      = bigSep Finset.univ fun p : Fin 4 => bigSep Finset.univ fun k : Fin 8 => held c (mX p k) fullShare f := by
  rw [← bigSep_univ_prod (fun pk : Fin 4 × Fin 8 => held c (mX pk.1 pk.2) fullShare f)]
  exact parts c (Memref.whole main_arg0) (View.set_whole _) (fun pk : Fin 4 × Fin 8 => rRows pk.1 pk.2)
    (fun i j h => rows_disj _ _ _ _ (ne_pair h)) rows_all f

theorem out_rows (f : Buf (Elt F) ((c : Thread nD τ).loc main_v1)) :
    (((c : Thread nD τ).loc main_v1) ↦{fullShare} f : sProp 𝕄)
      = bigSep Finset.univ fun p : Fin 4 => bigSep Finset.univ fun k : Fin 8 => held c (mOut p k) fullShare f := by
  rw [← bigSep_univ_prod (fun pk : Fin 4 × Fin 8 => held c (mOut pk.1 pk.2) fullShare f)]
  exact parts c (Memref.whole main_v1) (View.set_whole _) (fun pk : Fin 4 × Fin 8 => rRows pk.1 pk.2)
    (fun i j h => rows_disj _ _ _ _ (ne_pair h)) rows_all f

theorem out_halves (p : Fin 4) (k : Fin 8) (f : Buf (Elt F) ((c : Thread nD τ).loc main_v1)) :
    held c (mOut p k) fullShare f = (iprop(held c (mOutH p k 0) fullShare f ∗ held c (mOutH p k 1) fullShare f) : sProp 𝕄) := by
  have hs : (mOut p k).view.set = (mOutH p k 0).view.set ∪ (mOutH p k 1).view.set := by
    show ((View.whole main_v1).slice (rRows p k)).set = ((View.whole main_v1).slice (rRowsH p k 0)).set ∪ ((View.whole main_v1).slice (rRowsH p k 1)).set
    rw [View.set_slice_whole, View.set_slice_whole, View.set_slice_whole, rows_eq_halves]
  have hd : Disjoint (mOutH p k 0).view.set (mOutH p k 1).view.set := by
    show Disjoint ((View.whole main_v1).slice (rRowsH p k 0)).set ((View.whole main_v1).slice (rRowsH p k 1)).set
    rw [View.set_slice_whole, View.set_slice_whole]
    exact rowsH_disj p k
  unfold held
  rw [hs]
  exact BI.equiv_iff.mp ⟨(pointsTo_union hd).1, (pointsTo_union hd).2⟩

/-- The result of device `c`, by what is stored where. -/
theorem out_pieces (f : Buf (Elt F) ((c : Thread nD τ).loc main_v1)) :
    (((c : Thread nD τ).loc main_v1) ↦{fullShare} f : sProp 𝕄)
      = bigSep Finset.univ fun k : Fin 8 => iprop(held c (mOut (qO (yOf c) (bOf c)) k) fullShare f ∗ held c (mOut (qY (yOf c) (bOf c)) k) fullShare f
          ∗ held c (mOut (qZ (yOf c) (bOf c)) k) fullShare f ∗ held c (mOutH (qD (yOf c) (bOf c)) k 0) fullShare f
          ∗ held c (mOutH (qD (yOf c) (bOf c)) k 1) fullShare f) := by
  rw [out_rows, quarters (yOf c) (bOf c)]
  simp only [bigSep_sep', ← out_halves]

/-! ## Lists of pieces -/

theorem pieces_append (l l' : List (Piece × Fin 8)) : pieces X c (l ++ l') = iprop(pieces X c l ∗ pieces X c l') := by
  rw [← sepA_atoms, ← sepA_atoms, ← sepA_atoms, ← sepA_append]; unfold atoms; rw [List.map_append]

theorem pieces_flatMap (g : Fin 8 → List (Piece × Fin 8)) (l : List (Fin 8)) : pieces X c (l.flatMap g) = bigSepL l fun k => pieces X c (g k) := by
  induction l with
  | nil => rfl
  | cons k l ih => rw [List.flatMap_cons, pieces_append, ih, bigSepL_cons']

theorem pieces_chunks (g : Fin 8 → List (Piece × Fin 8)) : pieces X c ((List.finRange 8).flatMap g) = bigSep Finset.univ fun k => pieces X c (g k) := by
  rw [pieces_flatMap, ← bigSep_univ_eq_bigSepL (List.finRange 8) (by decide) (by decide)]

theorem pieces_each (a : Piece) : pieces X c ((List.finRange 8).map fun k => (a, k)) = bigSep Finset.univ fun k => piece X c a k := by
  rw [List.map_eq_flatMap, pieces_chunks]
  exact bigSep_congr fun k _ => BI.equiv_iff.mp BI.sep_emp

/-! ## At the start -/

/-- The argument's rows the device does not read. -/
def restX : sProp 𝕄 :=
  iprop((bigSep Finset.univ fun k : Fin 8 => held c (mX (qY (yOf c) (bOf c)) k) fullShare (tab (xT X c)))
    ∗ (bigSep Finset.univ fun k : Fin 8 => held c (mX (qZ (yOf c) (bOf c)) k) fullShare (tab (xT X c)))
    ∗ bigSep Finset.univ fun k : Fin 8 => held c (mX (qD (yOf c) (bOf c)) k) fullShare (tab (xT X c)))

theorem x_pieces : (((c : Thread nD τ).loc main_arg0) ↦{fullShare} X c : sProp 𝕄)
    = iprop((bigSep Finset.univ fun k : Fin 8 => held c (mX (qO (yOf c) (bOf c)) k) fullShare (tab (xT X c))) ∗ restX X c) := by
  unfold restX
  rw [← quarters (yOf c) (bOf c) (fun p => bigSep Finset.univ fun k : Fin 8 => held c (mX p k) fullShare (tab (xT X c)))]
  rw [← x_rows c (tab (xT X c)), xT_eq]

/-- The five parts of the result chunk `k` of the buffers is stored to, at some contents; at the result's. -/
def freeOut (k : Fin 8) : sProp 𝕄 :=
  iprop(free c (mOut (qO (yOf c) (bOf c)) k) ∗ free c (mOut (qY (yOf c) (bOf c)) k)
          ∗ free c (mOut (qZ (yOf c) (bOf c)) k) ∗ free c (mOutH (qD (yOf c) (bOf c)) k 0)
          ∗ free c (mOutH (qD (yOf c) (bOf c)) k 1))
def doneOut (k : Fin 8) : sProp 𝕄 :=
  iprop(held c (mOut (qO (yOf c) (bOf c)) k) fullShare (tab (oT X c)) ∗ held c (mOut (qY (yOf c) (bOf c)) k) fullShare (tab (oT X c))
    ∗ held c (mOut (qZ (yOf c) (bOf c)) k) fullShare (tab (oT X c)) ∗ held c (mOutH (qD (yOf c) (bOf c)) k 0) fullShare (tab (oT X c))
    ∗ held c (mOutH (qD (yOf c) (bOf c)) k 1) fullShare (tab (oT X c)))

theorem free_out : freeBuf c main_v1 ⊢ (bigSep Finset.univ fun k : Fin 8 => freeOut c k : sProp 𝕄) := by
  iintro ⟨%f, H⟩
  have h : ∀ k ∈ (Finset.univ : Finset (Fin 8)),
      (iprop(held c (mOut (qO (yOf c) (bOf c)) k) fullShare f ∗ held c (mOut (qY (yOf c) (bOf c)) k) fullShare f
          ∗ held c (mOut (qZ (yOf c) (bOf c)) k) fullShare f ∗ held c (mOutH (qD (yOf c) (bOf c)) k 0) fullShare f
          ∗ held c (mOutH (qD (yOf c) (bOf c)) k 1) fullShare f) : sProp 𝕄)
        ⊢ freeOut c k := fun k _ => by
    unfold freeOut
    iintro ⟨H1, H2, H3, H4, H5⟩
    isplitl [H1]; · iexists f; iexact H1
    isplitl [H2]; · iexists f; iexact H2
    isplitl [H3]; · iexists f; iexact H3
    isplitl [H4]; · iexists f; iexact H4
    iexists f; iexact H5
  iapply ((Entails.of_eq (out_pieces c f)).trans (bigSep_mono h))
  iexact H

theorem bar_x : (bigSep Finset.univ fun k => free c (mChunk commA k)) ⊢ pieces X (xp c) (barPay 0) := by
  have h : pieces X (xp c) (barPay 0) = bigSep Finset.univ fun k => free (xp (xp c)) (mChunk commA k) := pieces_each X (xp c) (.re .A)
  rw [h, xp_xp]
theorem bar_y : iprop((bigSep Finset.univ fun k => free c (mChunk commY k)) ∗ bigSep Finset.univ fun k => free c (mHalf commD k 0))
    ⊢ pieces X (yp c) (barPay 1) := by
  have h : pieces X (yp c) (barPay 1)
      = iprop((bigSep Finset.univ fun k => free (yp (yp c)) (mChunk commY k)) ∗ bigSep Finset.univ fun k => free (yp (yp c)) (mHalf commD k 0)) := by
    unfold barPay; rw [pieces_append, pieces_each, pieces_each]; rfl
  rw [h, yp_yp]
theorem bar_z : iprop((bigSep Finset.univ fun k => free c (mChunk commZ k)) ∗ bigSep Finset.univ fun k => free c (mHalf commD k 1))
    ⊢ pieces X (zp c) (barPay 2) := by
  have h : pieces X (zp c) (barPay 2)
      = iprop((bigSep Finset.univ fun k => free (zp (zp c)) (mChunk commZ k)) ∗ bigSep Finset.univ fun k => free (zp (zp c)) (mHalf commD k 1)) := by
    unfold barPay; rw [pieces_append, pieces_each, pieces_each]; rfl
  rw [h, zp_zp]

theorem slots_six (l : Fin 6 → Fin 8) (hl : ∀ s, sl (l s) = s) :
    pieces X c (([0, 1, 2, 3, 4, 5] : List (Fin 6)).map fun s => (.le .X, l s)) = bigSep Finset.univ fun s => free c (mXf s) := by
  have h : ∀ s, piece X c (.le .X) (l s) = free c (mXf s) := fun s => by
    show free c (mXf (sl (l s))) = _
    rw [hl]
  rw [bigSep_univ_eq_bigSepL ([0, 1, 2, 3, 4, 5] : List (Fin 6)) (by decide) (by decide)]
  generalize ([0, 1, 2, 3, 4, 5] : List (Fin 6)) = ls
  induction ls with
  | nil => rfl
  | cons s ls ih => rw [bigSepL_cons', ← ih, ← h]; rfl

theorem slots_start : pieces X c slots6 = bigSep Finset.univ fun s => free c (mXf s) :=
  slots_six X c (fun s => ⟨s.val, by omega⟩) (by decide)
theorem slots_fin : pieces X c slotsEnd = bigSep Finset.univ fun s => free c (mXf s) :=
  slots_six X c (fun s => if h : s.val < 2 then ⟨s.val + 6, by omega⟩ else ⟨s.val, Nat.lt_trans s.isLt (by decide)⟩) (by decide)

/-- All the scratch buffers. -/
def scratch : sProp 𝕄 :=
  iprop(freeBuf c cc0_scratch0 ∗ freeBuf c cc0_scratch1 ∗ freeBuf c cc0_scratch2 ∗ freeBuf c cc0_scratch3 ∗ freeBuf c cc0_scratch4
    ∗ freeBuf c cc0_scratch5 ∗ freeBuf c cc0_scratch6)

theorem init_mem :
    iprop((((c : Thread nD τ).loc main_arg0) ↦{fullShare} X c) ∗ freeBuf c main_v1 ∗ scratch c)
      ⊢ (iprop(pieces X c ((List.finRange 8).flatMap initM) ∗ pieces X c slots6 ∗ restX X c
          ∗ pieces X (xp c) (barPay 0) ∗ pieces X (yp c) (barPay 1) ∗ pieces X (zp c) (barPay 2)) : sProp 𝕄) := by
  rw [x_pieces, pieces_chunks, slots_start]
  unfold scratch
  iintro ⟨⟨Hx, HR⟩, Ho, H0, H1, H2, H3, H4, H5, H6⟩
  ihave Ho := (free_out c) $$ Ho
  ihave H0 := (chunks_split c commA (View.set_whole _)) $$ H0
  ihave H1 := (chunks_split c sendR (View.set_whole _)) $$ H1
  ihave H2 := (chunks_split c commY (View.set_whole _)) $$ H2
  ihave H3 := (chunks_split c commZ (View.set_whole _)) $$ H3
  ihave H4 := (halves_split c) $$ H4
  icases H4 with ⟨H4, H4'⟩
  ihave H5 := (slots8_split c) $$ H5
  ihave H6 := (slots6_split c) $$ H6
  have h : ∀ k ∈ (Finset.univ : Finset (Fin 8)),
      (iprop(held c (mX (qO (yOf c) (bOf c)) k) fullShare (tab (xT X c))
        ∗ freeOut c k ∗ free c (mSendA k) ∗ free c (mChunk sendR k)) : sProp 𝕄)
        ⊢ pieces X c (initM k) := fun k _ => by
    unfold freeOut
    show _ ⊢ iprop(held c (mX (qO (yOf c) (bOf c)) k) fullShare (tab (xT X c))
        ∗ free c (mOut (qO (yOf c) (bOf c)) k) ∗ free c (mOut (qY (yOf c) (bOf c)) k)
          ∗ free c (mOut (qZ (yOf c) (bOf c)) k) ∗ free c (mOutH (qD (yOf c) (bOf c)) k 0)
          ∗ free c (mOutH (qD (yOf c) (bOf c)) k 1) ∗ free c (mSendA k) ∗ free c (mChunk sendR k) ∗ emp)
    iintro ⟨A, ⟨B1, B2, B3, B4, B5⟩, C, D⟩
    isplitl [A]; · iexact A
    isplitl [B1]; · iexact B1
    isplitl [B2]; · iexact B2
    isplitl [B3]; · iexact B3
    isplitl [B4]; · iexact B4
    isplitl [B5]; · iexact B5
    isplitl [C]; · iexact C
    isplitl [D]; · iexact D
    iempintro
  isplitl [Hx Ho H5 H1]
  · have hm := bigSep_mono h
    rw [bigSep_sep', bigSep_sep', bigSep_sep'] at hm
    iapply (show BIBase.Entails _ _ from hm)
    isplitl [Hx]; · iexact Hx
    isplitl [Ho]; · iexact Ho
    isplitl [H5]; · iexact H5
    iexact H1
  isplitl [H6]; · iexact H6
  isplitl [HR]; · iexact HR
  isplitl [H0]; · iapply (bar_x X c); iexact H0
  isplitl [H2 H4]
  · iapply (bar_y X c)
    isplitl [H2]; · iexact H2
    iexact H4
  iapply (bar_z X c)
  isplitl [H3]; · iexact H3
  iexact H4'

/-! ## At the end -/

/-- What the pieces of chunk `k` make up at the end. -/
theorem fin_chunk (k : Fin 8) : pieces X c (finM k)
    ⊢ (iprop(held c (mX (qO (yOf c) (bOf c)) k) fullShare (tab (xT X c))
        ∗ doneOut X c k
        ∗ free c (mSendA k) ∗ free c (mChunk commA k) ∗ free c (mChunk sendR k) ∗ free c (mChunk commY k) ∗ free c (mChunk commZ k)
        ∗ free c (mHalf commD k 0) ∗ free c (mHalf commD k 1)) : sProp 𝕄) := by
  unfold doneOut
  show (iprop(held c (mX (qO (yOf c) (bOf c)) k) fullShare (tab (xT X c))
      ∗ held c (mOut (qO (yOf c) (bOf c)) k) fullShare (tab (oT X c)) ∗ held c (mOut (qY (yOf c) (bOf c)) k) fullShare (tab (oT X c))
      ∗ held c (mOut (qZ (yOf c) (bOf c)) k) fullShare (tab (oT X c)) ∗ held c (mOutH (qD (yOf c) (bOf c)) k 0) fullShare (tab (oT X c))
      ∗ held c (mOutH (qD (yOf c) (bOf c)) k 1) fullShare (tab (oT X c))
      ∗ held c (mSendA k) fullShare.left (slots (aT X c)) ∗ held c (mSendA k) fullShare.right (slots (aT X c))
      ∗ held c (mChunk commA k) fullShare (tab (aT X (xp c)))
      ∗ held c (mChunk sendR k) (shares3 fullShare 2) (tab (sT X c)) ∗ held c (mChunk sendR k) (shares3 fullShare 0) (tab (sT X c))
      ∗ held c (mChunk sendR k) (shares3 fullShare 1) (tab (sT X c))
      ∗ held c (mChunk commY k) fullShare.left (tab (sT X (yp c))) ∗ held c (mHalf commY k 1) fullShare.right (tab (sT X (yp c)))
      ∗ held c (mHalf commY k 0) fullShare.right (tab (sT X (yp c)))
      ∗ held c (mChunk commZ k) fullShare.left (tab (sT X (zp c))) ∗ held c (mHalf commZ k 0) fullShare.right (tab (sT X (zp c)))
      ∗ held c (mHalf commZ k 1) fullShare.right (tab (sT X (zp c)))
      ∗ held c (mHalf commD k 0) fullShare (tab (sT X (zp (yp c)))) ∗ held c (mHalf commD k 1) fullShare (tab (sT X (zp (yp c)))) ∗ emp) : sProp 𝕄) ⊢ _
  iintro ⟨A, B1, B2, B3, B4, B5, C1, C2, D, E2, E0, E1, G1, G2, G3, I1, I2, I3, J1, J2, -⟩
  isplitl [A]; · iexact A
  isplitl [B1 B2 B3 B4 B5]
  · isplitl [B1]; · iexact B1
    isplitl [B2]; · iexact B2
    isplitl [B3]; · iexact B3
    isplitl [B4]; · iexact B4
    iexact B5
  isplitl [C1 C2]
  · iexists (slots (aT X c))
    iapply (Entails.of_eq (held_share c (mSendA k) (slots (aT X c)) fullShare).symm)
    isplitl [C1]; · iexact C1
    iexact C2
  isplitl [D]; · iexists _; iexact D
  isplitl [E0 E1 E2]
  · iexists (tab (sT X c))
    iapply (Entails.of_eq (held_thirds c (mChunk sendR k) (tab (sT X c)) fullShare).symm)
    isplitl [E0]; · iexact E0
    isplitl [E1]; · iexact E1
    iexact E2
  isplitl [G1 G2 G3]
  · iexists (tab (sT X (yp c)))
    iapply (Entails.of_eq (held_share c (mChunk commY k) (tab (sT X (yp c))) fullShare).symm)
    isplitl [G1]; · iexact G1
    iapply (Entails.of_eq (held_halves c commY k fullShare.right (tab (sT X (yp c)))).symm)
    isplitl [G3]; · iexact G3
    iexact G2
  isplitl [I1 I2 I3]
  · iexists (tab (sT X (zp c)))
    iapply (Entails.of_eq (held_share c (mChunk commZ k) (tab (sT X (zp c))) fullShare).symm)
    isplitl [I1]; · iexact I1
    iapply (Entails.of_eq (held_halves c commZ k fullShare.right (tab (sT X (zp c)))).symm)
    isplitl [I2]; · iexact I2
    iexact I3
  isplitl [J1]; · iexists _; iexact J1
  iexists _; iexact J2

theorem fin_mem :
    iprop(pieces X c ((List.finRange 8).flatMap finM) ∗ pieces X c slotsEnd ∗ restX X c)
      ⊢ (iprop((((c : Thread nD τ).loc main_arg0) ↦{fullShare} X c) ∗ (((c : Thread nD τ).loc main_v1) ↦{fullShare} tab (oT X c)) ∗ scratch c) : sProp 𝕄) := by
  rw [x_pieces, pieces_chunks, slots_fin, out_pieces c (tab (oT X c))]
  iintro ⟨H, H6, HR⟩
  have hm := bigSep_mono (s := Finset.univ) fun k _ => fin_chunk X c k
  rw [bigSep_sep', bigSep_sep', bigSep_sep', bigSep_sep', bigSep_sep', bigSep_sep', bigSep_sep', bigSep_sep'] at hm
  ihave H := (show BIBase.Entails _ _ from hm) $$ H
  icases H with ⟨Hx, Ho, H5, H0, H1, H2, H3, H4, H4'⟩
  isplitl [Hx HR]
  · isplitl [Hx] <;> iassumption
  isplitl [Ho]; · unfold doneOut; iexact Ho
  unfold scratch
  isplitl [H0]; · iapply (chunks_join c commA (View.set_whole _)); iexact H0
  isplitl [H1]; · iapply (chunks_join c sendR (View.set_whole _)); iexact H1
  isplitl [H2]; · iapply (chunks_join c commY (View.set_whole _)); iexact H2
  isplitl [H3]; · iapply (chunks_join c commZ (View.set_whole _)); iexact H3
  isplitl [H4 H4']
  · iapply (halves_join c)
    isplitl [H4] <;> iassumption
  isplitl [H5]; · iapply (slots8_join c); iexact H5
  iapply (slots6_join c); iexact H6

end Cert.AllReduce

end
-- ==== Proof.Core.lean ====
/-
# The body on one device

From what the launch deals a device: the barrier, then the steps, then every semaphore closed at zero.
-/
module

public import proofs.«01_k».proof.Proof.Memory
public import proofs.«01_k».proof.Proof.Net
public import Idealize.ShloMosaic.Lib.Rounds.Family

@[expose] public section

noncomputable section

namespace Cert.AllReduce

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S8192x1024.Idx → Elt F .f32)
variable (K : Dev nD × Option (DmaSem sig) → ℕ)
variable (c : Dev nD)

/-! ## What the launch deals -/

/-- The rights to pay: one unit of each peer's barrier, each copy's completion, and the two second rounds. -/
def payToks : sProp 𝕄 :=
  iprop(dutyTok ER (bcell (xp c)) 0 0 ∗ dutyTok ER (bcell (yp c)) 0 1 ∗ dutyTok ER (bcell (zp c)) 0 2
    ∗ (bigSep Finset.univ fun i : DmaSem sig => dutyTok ER (dcell (payee c i) i) 0 0)
    ∗ dutyTok ER (dcell c (lsem .X 6)) 1 0 ∗ dutyTok ER (dcell c (lsem .X 7)) 1 0)

def poss : sProp 𝕄 :=
  iprop(atPos ER (bcell c) 0 ∅ 0 ∗ bigSep Finset.univ fun i : DmaSem sig => atPos ER (dcell c i) 0 ∅ 0)

/-- The credits for what the peers owe: three units at the barrier, and every arrival. -/
def credsOf : sProp 𝕄 :=
  iprop(cred (tallyAt (bcell c) () 3)
    ∗ bigSep Finset.univ fun a : RCh × Fin 8 => cred (tallyAt (dcell c (rsem a.1 a.2)) () (units (.r a.1 a.2))))

/-- What a device owes at the start: every arrival it pays, and the three barrier units. -/
def O₃ : CellTallies nD τ sig Unit := owed c steps + tallyAt (bcell (zp c)) () 1
def O₂ : CellTallies nD τ sig Unit := O₃ c + tallyAt (bcell (yp c)) () 1
def O₀ : CellTallies nD τ sig Unit := O₂ c + tallyAt (bcell (xp c)) () 1

/-! ## The atoms the launch's deal makes -/

theorem sepA_map {I : Type} (f : I → Atom) (l : List I) : sepA X c (l.map f) = bigSepL l fun i => den X c (f i) := by
  induction l with
  | nil => rfl
  | cons i l ih => rw [List.map_cons, bigSepL_cons', ← ih]; rfl

theorem sepA_flatMap {I : Type} (g : I → List Atom) (l : List I) : sepA X c (l.flatMap g) = bigSepL l fun i => sepA X c (g i) := by
  induction l with
  | nil => rfl
  | cons i l ih => rw [List.flatMap_cons, sepA_append, ih, bigSepL_cons']

theorem bigSep_finRange {n : ℕ} (Φ : Fin n → sProp 𝕄) : bigSepL (List.finRange n) Φ = bigSep Finset.univ Φ :=
  (bigSep_univ_eq_bigSepL (List.finRange n) (List.toFinset_finRange n).symm (List.nodup_finRange n) Φ).symm

theorem initG_eq : sepA X c initG
    = iprop((bigSep Finset.univ fun i : DmaSem sig => iprop(atPos ER (dcell c i) 0 ∅ 0 ∗ reached ER (dcell c i) 0))
        ∗ (bigSep Finset.univ fun i : DmaSem sig => dutyTok ER (dcell (payee c i) i) 0 0)
        ∗ (dutyTok ER (dcell c (lsem .X 6)) 1 0 ∗ dutyTok ER (dcell c (lsem .X 7)) 1 0 ∗ emp)
        ∗ bigSep Finset.univ fun a : RCh × Fin 8 => cred (tallyAt (dcell c (rsem a.1 a.2)) () (units (.r a.1 a.2)))) := by
  have h4 : sepA X c (initG.RList.flatMap fun ch => (List.finRange 8).map fun k => Atom.crd (rsem ch k))
      = bigSep Finset.univ fun a : RCh × Fin 8 => cred (tallyAt (dcell c (rsem a.1 a.2)) () (units (.r a.1 a.2))) := by
    rw [sepA_flatMap, bigSep_univ_prod, bigSep_univ_eq_bigSepL initG.RList (by decide) (by decide) (fun ch : RCh => bigSep Finset.univ fun k : Fin 8 => cred (tallyAt (dcell c (rsem ch k)) () (units (.r ch k))))]
    congr 1
    funext ch
    rw [sepA_map, bigSep_finRange]
    refine bigSep_congr fun k _ => ?_
    show cred (tallyAt (dcell c (rsem ch k)) () (units (key (rsem ch k)))) = _
    rw [key_rsem]
  have h3 : sepA X c [.tok 1 (lsem .X 6), .tok 1 (lsem .X 7)]
      = iprop(dutyTok ER (dcell c (lsem .X 6)) 1 0 ∗ dutyTok ER (dcell c (lsem .X 7)) 1 0 ∗ emp) := by
    show iprop(dutyTok ER (dcell (payee c (lsem .X 6)) (lsem .X 6)) 1 0 ∗ dutyTok ER (dcell (payee c (lsem .X 7)) (lsem .X 7)) 1 0 ∗ emp) = _
    rw [payee_l, payee_l]
  unfold initG
  rw [sepA_append, sepA_append, sepA_append, h4, h3, sepA_map, sepA_map, bigSep_finRange, bigSep_finRange]
  rfl

theorem reached_all : ctx X K ⊢ bigSep Finset.univ fun i : DmaSem sig => reached ER (dcell c i) 0 := by
  refine (BI.bigSep_of_persistent Finset.univ (ctx X K)).trans (bigSep_mono fun i _ => ?_)
  exact ctx_reached X K (c, some i)

/-! ## The end -/

def endR (i : DmaSem sig) : Fin 3 := if (key i == .x 0) || (key i == .x 1) then 2 else 1

theorem endR_rounds (i : DmaSem sig) : rounds (key i) ≤ (endR i).val := by revert i; decide +kernel

theorem fin_eq : sepA X c finA
    = iprop(pieces X c ((List.finRange 8).flatMap finM) ∗ pieces X c slotsEnd
        ∗ bigSep Finset.univ fun i : DmaSem sig => iprop(atPos ER (dcell c i) (endR i).val ∅ 0 ∗ reached ER (dcell c i) (endR i).val)) := by
  unfold finA
  rw [sepA_append, sepA_append, sepA_atoms, sepA_atoms, sepA_map, bigSep_finRange]
  rfl

theorem close_all :
    iprop(ctx X K ∗ bigSep Finset.univ fun i : DmaSem sig => iprop(atPos ER (dcell c i) (endR i).val ∅ 0 ∗ reached ER (dcell c i) (endR i).val))
      ⊢ |={Set.univ}=> (bigSep Finset.univ fun i : DmaSem sig => semVal (dcell c i) 0 : sProp 𝕄) := by
  refine Idealize.SL.BI.BIBase.Entails.trans ?_ (Rounds.cells_close ER (sched X) (Finset.univ : Finset (DmaSem sig)) (fun i : DmaSem sig => dcell c i) (fun i => K (c, some i))
    (fun _ _ => Set.mem_univ _) (fun _ _ h => h) (fun i => (endR i).val)
    (fun i _ r hr => duties_d_end X c i r ((endR_rounds i).trans hr)))
  refine (sep_mono_left (BI.bigSep_of_persistent (Finset.univ : Finset (DmaSem sig)) (ctx X K))).trans ?_
  rw [← bigSep_sep']
  refine bigSep_mono fun i _ => ?_
  show iprop(ctx X K ∗ atPos ER (dcell c i) (endR i).val ∅ 0 ∗ reached ER (dcell c i) (endR i).val)
    ⊢ iprop(cellInv ER (sched X) (K (c, some i)) (dcell c i) ∗ atPos ER (dcell c i) (endR i).val ∅ 0)
  iintro ⟨HC, Ha, -⟩
  isplitl [HC]; · iapply (ctx_inv X K (c, some i)); iexact HC
  iexact Ha

/-! ## The body -/

def bodyPre : sProp 𝕄 :=
  iprop(ctx X K ∗ poss c ∗ payToks c ∗ credsOf c
    ∗ ((((c : Thread nD τ).loc main_arg0) ↦{fullShare} X c) ∗ freeBuf c main_v1 ∗ scratch c) ∗ owesE c (O₀ c))

def bodyPost : sProp 𝕄 :=
  iprop(((((c : Thread nD τ).loc main_arg0) ↦{fullShare} X c) ∗ (((c : Thread nD τ).loc main_v1) ↦{fullShare} tab (oT X c)) ∗ scratch c)
    ∗ (bigSep Finset.univ fun i : DmaSem sig => semVal (dcell c i) 0) ∗ semVal (bcell c) 0 ∗ owesE c 0)

theorem pay_b (g : Dev nD) (d : Fin 3) : pieces X g (barPay d) ⊢ (sched X).payload (bcell g) 0 d := Entails.of_eq rfl

theorem above_steps : above 0 steps = true := by decide +kernel

set_option maxRecDepth 8000 in
set_option maxHeartbeats 800000 in
theorem sound_body (Ψ : PUnit.{1} → sProp 𝕄) :
    iprop(bodyPre X K c ∗ (bodyPost X c -∗ Ψ ⟨⟩)) ⊢ runs c body Ψ := by
  unfold body runs
  simp only [semSignalWord, semWaitWord, Prog.lift, Prog.bind_op, Prog.bind_ret, Prog.pure_eq_ret, wp_deviceId]
  unfold bodyPre poss payToks credsOf owesE
  iintro ⟨⟨#HC, ⟨HaB, HaD⟩, ⟨HtX, HtY, HtZ, HtD, Ht6, Ht7⟩, ⟨HcB, HcR⟩, Hmem, ⟨%W, HO⟩⟩, Hk⟩
  ihave Hmem := (init_mem X c) $$ Hmem
  icases Hmem with ⟨Hm, Hs6, HR, HbX, HbY, HbZ⟩
  ihave #HIX := (ctx_inv X K (xp c, none)) $$ HC
  ihave #HIY := (ctx_inv X K (yp c, none)) $$ HC
  ihave #HIZ := (ctx_inv X K (zp c, none)) $$ HC
  ihave #HIB := (ctx_inv X K (c, none)) $$ HC
  ihave #HRX := (ctx_reached X K (xp c, none)) $$ HC
  ihave #HRY := (ctx_reached X K (yp c, none)) $$ HC
  ihave #HRZ := (ctx_reached X K (zp c, none)) $$ HC
  iapply (Rounds.wp_signal 𝒱₀ ER (sched X) (c : Thread nD τ) none (dst := (xp c : Thread nD τ)) (κ := K (xp c, none)) (sem := bar) (r := 0)
      (d := 0) (by rw [duties_b]; exact Finset.mem_univ _) rfl () (O₂ c) rfl)
    $$ [HO HtX HbX]
  · isplitr; · iexact HIX
    isplitl [HO]; · iexact HO
    isplitl [HtX]; · iexact HtX
    isplitl [HbX]; · iapply (pay_b X (xp c) 0); iexact HbX
    iexact HRX
  iintro HO
  iapply (Rounds.wp_signal 𝒱₀ ER (sched X) (c : Thread nD τ) none (dst := (yp c : Thread nD τ)) (κ := K (yp c, none)) (sem := bar) (r := 0)
      (d := 1) (by rw [duties_b]; exact Finset.mem_univ _) rfl () (O₃ c) rfl)
    $$ [HO HtY HbY]
  · isplitr; · iexact HIY
    isplitl [HO]; · iexact HO
    isplitl [HtY]; · iexact HtY
    isplitl [HbY]; · iapply (pay_b X (yp c) 1); iexact HbY
    iexact HRY
  iintro HO
  iapply (Rounds.wp_signal 𝒱₀ ER (sched X) (c : Thread nD τ) none (dst := (zp c : Thread nD τ)) (κ := K (zp c, none)) (sem := bar) (r := 0)
      (d := 2) (by rw [duties_b]; exact Finset.mem_univ _) rfl () (owed c steps) rfl)
    $$ [HO HtZ HbZ]
  · isplitr; · iexact HIZ
    isplitl [HO]; · iexact HO
    isplitl [HtZ]; · iexact HtZ
    isplitl [HbZ]; · iapply (pay_b X (zp c) 2); iexact HbZ
    iexact HRZ
  iintro HO
  iapply (Rounds.wp_wait_rest_token 𝒱₀ ER (sched X) (c : Thread nD τ) none (κ := K (c, none))
      (wpE_semWait_eq 𝒱₀ (c : Thread nD τ) none Set.univ) (Set.mem_univ _) () (O := owed c steps) (W := W) (R := 0) (m := 0) (T := ∅)
      (by rw [expect_b]; decide)) $$ [HcB HO HaB]
  · isplitr; · iexact HIB
    isplitl [HcB]; · iexact HcB
    isplitl [HO]; · iexact HO
    isplitr; · iapply ((ctx_lev X K).trans (mayWait c (.reg bar) 0 steps above_steps (Nat.le_refl 0))); iexact HC
    iexact HaB
  iintro ⟨HO, HaB, -, Hpay⟩
  ihave Hp := (Entails.of_eq (rest_b X c)) $$ Hpay
  icases Hp with ⟨HpX, HpY, HpZ⟩
  imod (Rounds.cell_close ER (sched X) (Set.mem_univ (K (c, none))) (fun h => h) (R := 0 + 1) (fun r hr => duties_b_end X c r hr)) $$ [HaB] with HzB
  · isplitr; · iexact HIB
    iexact HaB
  rw [branches_eq c]
  iapply (wp_fupd (E := Set.univ) (p := run c (yOf c) (bOf c) steps) (Q := Ψ))
  iapply (sound_run X K c (fun _ => iprop(|={Set.univ}=> Ψ ⟨⟩)) (mask initA) (mask finA) steps exec_steps)
  rw [own_mask X c initA good_init, own_mask X c finA good_fin, fin_eq]
  isplitr; · iexact HC
  isplitl [Hm Hs6 HaD HtD Ht6 Ht7 HcR HpX HpY HpZ]
  · unfold initA
    rw [sepA_append, sepA_append, sepA_append, sepA_append, sepA_append, sepA_atoms, sepA_atoms, sepA_atoms, sepA_atoms, sepA_atoms, initG_eq]
    isplitl [Hm]; · iexact Hm
    isplitl [Hs6]; · iexact Hs6
    isplitl [HaD HtD Ht6 Ht7 HcR]
    · isplitl [HaD]
      · rw [bigSep_sep']
        isplitl [HaD]; · iexact HaD
        iapply (reached_all X K c); iexact HC
      isplitl [HtD]; · iexact HtD
      isplitl [Ht6 Ht7]
      · isplitl [Ht6]; · iexact Ht6
        isplitl [Ht7]; · iexact Ht7
        iempintro
      iexact HcR
    isplitl [HpX]; · iexact HpX
    isplitl [HpY]; · iexact HpY
    iexact HpZ
  isplitl [HO]; · unfold owesE; iexists _; iexact HO
  iintro ⟨Hm, Hs, Hd⟩ HO
  ihave Hmem := (fin_mem X c) $$ [Hm Hs HR]
  · isplitl [Hm]; · iexact Hm
    isplitl [Hs]; · iexact Hs
    iexact HR
  imod (close_all X K c) $$ [Hd] with Hz
  · isplitr; · iexact HC
    iexact Hd
  imodintro
  iapply Hk
  unfold bodyPost
  isplitl [Hmem]; · iexact Hmem
  isplitl [Hz]; · iexact Hz
  isplitl [HzB]; · iexact HzB
  iexact HO

end Cert.AllReduce

end
-- ==== Proof.Launch.lean ====
/-
# The launch's deal

What the launch's ghost element gives every device, the tokens dealt to the devices that pay with them, the invariants
of every cell allocated at once, and the credits for what the peers owe.
-/
module

public import proofs.«01_k».proof.Proof.Core
public import proofs.«01_k».proof.Proof.Gen.KernelIdeal.Launch
public import Idealize.ShloMosaic.Lib.Pipeline.Launch
public import Idealize.ShloMosaic.Lib.Pipeline.Kit

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → S8192x1024.Idx → Elt F .f32)

/-! ## The cells and the tokens -/

abbrev osem (i : DmaSem sig) : SemLoc sig := .dma i

set_option maxRecDepth 16384 in
theorem ownSemFacts : Pipeline.OwnSemFacts cfg0.spec osem := by decide +kernel

abbrev Cell : Type := Dev nD × Option (DmaSem sig)

theorem cellAt_injective : Function.Injective (cellAt : Cell → GSem nD τ sig) := by
  rintro ⟨c, i⟩ ⟨c', i'⟩ h
  have h1 : c = c' := by
    have := congrArg (fun g : GSem nD τ sig => g.1.1) h
    cases i <;> cases i' <;> exact this
  subst h1
  have h2 : i = i' := by
    have := congrArg Prod.snd h
    cases i <;> cases i'
    · rfl
    · exact absurd this (by intro h; cases h)
    · exact absurd this (by intro h; cases h)
    · exact congrArg some (SemLoc.dma.inj this)
  subst h2; rfl

def allCells : Finset (GSem nD τ sig) := Finset.univ.map ⟨cellAt, cellAt_injective⟩

/-- A device's tokens: the barrier's three, one of each copy's semaphore, one more of the two used twice. -/
abbrev Tok : Type := Fin 3 ⊕ (DmaSem sig ⊕ Fin 2)

def twice (j : Fin 2) : DmaSem sig := lsem .X ⟨6 + j.val, by omega⟩
theorem twice_inj : ∀ j j', twice j = twice j' → j = j' := by decide

abbrev tokOf (a : Dev nD × Tok) : GSem nD τ sig × ℕ × Fin 3 := match a.2 with
  | .inl d => (bcell a.1, 0, d)
  | .inr (.inl i) => (dcell a.1 i, 0, 0)
  | .inr (.inr j) => (dcell a.1 (twice j), 1, 0)

theorem tokOf_injective : Function.Injective (tokOf : Dev nD × Tok → GSem nD τ sig × ℕ × Fin 3) := by
  rintro ⟨c, a⟩ ⟨c', a'⟩ h
  have h1 : c = c' := by
    have := congrArg (fun x : GSem nD τ sig × ℕ × Fin 3 => x.1.1.1) h
    rcases a with d | i | j <;> rcases a' with d' | i' | j' <;> exact this
  subst h1
  have hs := congrArg (fun x : GSem nD τ sig × ℕ × Fin 3 => x.1.2) h
  have hr := congrArg (fun x : GSem nD τ sig × ℕ × Fin 3 => x.2.1) h
  have hd := congrArg (fun x : GSem nD τ sig × ℕ × Fin 3 => x.2.2) h
  rcases a with d | i | j <;> rcases a' with d' | i' | j'
  · exact congrArg (fun d => (c, Sum.inl d)) hd
  · exact absurd hs (by intro h; cases h)
  · exact absurd hs (by intro h; cases h)
  · exact absurd hs (by intro h; cases h)
  · exact congrArg (fun i => (c, Sum.inr (Sum.inl i))) (SemLoc.dma.inj hs)
  · exact absurd hr (by intro h; cases h)
  · exact absurd hs (by intro h; cases h)
  · exact absurd hr (by intro h; cases h)
  · exact congrArg (fun j => (c, Sum.inr (Sum.inr j))) (twice_inj _ _ (SemLoc.dma.inj hs))

def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- A device's own cells' tokens. -/
def toks (c : Dev nD) : sProp 𝕄 :=
  iprop((bigSep Finset.univ fun d : Fin 3 => dutyTok ER (bcell c) 0 d)
    ∗ (bigSep Finset.univ fun i : DmaSem sig => dutyTok ER (dcell c i) 0 0)
    ∗ bigSep Finset.univ fun j : Fin 2 => dutyTok ER (dcell c (twice j)) 1 0)

def G (c : Dev nD) : sProp 𝕄 :=
  iprop((bigSep Finset.univ fun i : Option (DmaSem sig) => roundState ER (sched X) (cellAt (c, i)) 0)
    ∗ (bigSep Finset.univ fun i : Option (DmaSem sig) => iprop(atPos ER (cellAt (c, i)) 0 ∅ 0 ∗ reached ER (cellAt (c, i)) 0))
    ∗ toks c)

theorem fund_all : BI.own (ER (initOf allCells allToks)) ⊢ (|==> bigSep Finset.univ (G X) : sProp 𝕄) := by
  have hX (Φ : GSem nD τ sig → sProp 𝕄) : bigSep allCells Φ
      = bigSep Finset.univ fun c : Dev nD => bigSep Finset.univ fun i : Option (DmaSem sig) => Φ (cellAt (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum, BI.bigSep_univ_sum]; rfl
  iintro HX
  imod (Rounds.fund ER (sched X) allCells allToks) $$ HX with ⟨Hst, Hr, Hat, Htok⟩
  imodintro
  ihave Hst' := (Entails.of_eq (hX fun g => roundState ER (sched X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = bigSep Finset.univ fun i : DmaSem sig => semVal (dcell c i) 0 := rfl

set_option maxRecDepth 16384 in
theorem unscoped_sems : (Finset.univ.filter fun sm : SemLoc sig => ¬ sm.isScoped .tc) = [SemLoc.reg bar].toFinset := by decide +kernel

theorem unscopedSems0_eq (c : Dev nD) : (unscopedSems0 c : sProp 𝕄) = semVal (bcell c) 0 := by
  unfold unscopedSems0; rw [bigSep_eq_bigSepL_of_eq [SemLoc.reg bar] unscoped_sems (by decide)]; rfl

theorem bigSep_option {I : Type} [Fintype I] [DecidableEq I] (Φ : Option I → sProp 𝕄) :
    bigSep Finset.univ Φ = iprop(Φ none ∗ bigSep Finset.univ fun i => Φ (some i)) := by
  rw [bigSep_univ_equiv (Equiv.optionEquivSumPUnit.{0} I).symm, BI.bigSep_univ_sum]
  rw [show (bigSep Finset.univ fun b : PUnit.{1} => Φ ((Equiv.optionEquivSumPUnit.{0} I).symm (.inr b))) = Φ none from
    bigSep_univ_eq_bigSepL [PUnit.unit] (by decide) (by decide) _]
  exact BI.equiv_iff.mp ⟨BI.sep_comm, BI.sep_comm⟩

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Option (DmaSem sig) => semVal (cellAt (c, i)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun i : Option (DmaSem sig) => iprop(∃ κ : ℕ, cellInv ER (sched X) κ (cellAt (c, i))))
          ∗ (bigSep Finset.univ fun i : Option (DmaSem sig) => iprop(atPos ER (cellAt (c, i)) 0 ∅ 0 ∗ reached ER (cellAt (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Option (DmaSem sig) => semVal (cellAt (c, i)) 0)
        ∗ bigSep Finset.univ fun i : Option (DmaSem sig) => roundState ER (sched X) (cellAt (c, i)) 0)
      ⊢ (|={Set.univ}=> bigSep Finset.univ fun i : Option (DmaSem sig) => iprop(∃ κ : ℕ, cellInv ER (sched X) κ (cellAt (c, i))) : sProp 𝕄) from by
        rw [← bigSep_sep']
        exact (bigSep_mono fun i _ => (Rounds.body_intro ER (sched X) (cellAt (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to the devices that pay with them -/

def swap (f : Dev nD → Dev nD) (h : ∀ c, f (f c) = c) : Dev nD ≃ Dev nD := ⟨f, f, h, h⟩

theorem peer_peer (c : Dev nD) (ch : RCh) : peer (peer c ch) ch = c := by revert c ch; decide

theorem payee_payee (c : Dev nD) (i : DmaSem sig) : payee (payee c i) i = c := by
  unfold payee
  cases key i <;> first | rfl | exact peer_peer _ _

theorem toks_around : (bigSep Finset.univ fun c : Dev nD => (toks c : sProp 𝕄)) ⊢ bigSep Finset.univ fun c : Dev nD => payToks c := by
  have hD : (bigSep Finset.univ fun c : Dev nD => bigSep Finset.univ fun i : DmaSem sig => (dutyTok ER (dcell c i) 0 0 : sProp 𝕄))
      = bigSep Finset.univ fun c : Dev nD => bigSep Finset.univ fun i : DmaSem sig => dutyTok ER (dcell (payee c i) i) 0 0 := by
    rw [← bigSep_univ_prod fun a : Dev nD × DmaSem sig => (dutyTok ER (dcell a.1 a.2) 0 0 : sProp 𝕄),
      ← bigSep_univ_prod fun a : Dev nD × DmaSem sig => (dutyTok ER (dcell (payee a.1 a.2) a.2) 0 0 : sProp 𝕄),
      bigSep_univ_equiv (⟨fun a => (payee a.1 a.2, a.2), fun a => (payee a.1 a.2, a.2),
        fun a => Prod.ext (payee_payee a.1 a.2) rfl, fun a => Prod.ext (payee_payee a.1 a.2) rfl⟩ : (Dev nD × DmaSem sig) ≃ (Dev nD × DmaSem sig))]
    rfl
  have h3 (Φ : Fin 3 → sProp 𝕄) : bigSep Finset.univ Φ = iprop(Φ 0 ∗ Φ 1 ∗ Φ 2) := bigSep_univ_eq_bigSepL [0, 1, 2] (by decide) (by decide) Φ
  have h2 (Φ : Fin 2 → sProp 𝕄) : bigSep Finset.univ Φ = iprop(Φ 0 ∗ Φ 1) := bigSep_univ_eq_bigSepL [0, 1] (by decide) (by decide) Φ
  unfold toks payToks
  simp only [h3, h2, bigSep_sep']
  rw [hD, bigSep_univ_equiv (swap xp xp_xp) (fun c : Dev nD => (dutyTok ER (bcell c) 0 0 : sProp 𝕄)),
    bigSep_univ_equiv (swap yp yp_yp) (fun c : Dev nD => (dutyTok ER (bcell c) 0 1 : sProp 𝕄)),
    bigSep_univ_equiv (swap zp zp_zp) (fun c : Dev nD => (dutyTok ER (bcell c) 0 2 : sProp 𝕄))]
  iintro ⟨⟨H1, H2, H3⟩, H4, H5, H6⟩
  isplitl [H1]; · iexact H1
  isplitl [H2]; · iexact H2
  isplitl [H3]; · iexact H3
  isplitl [H4]; · iexact H4
  isplitl [H5]; · iexact H5
  iexact H6

/-! ## Every device's share -/

def records (K : Cell → ℕ) : sProp 𝕄 :=
  iprop((bigSep Finset.univ fun x : Cell => cellInv ER (sched X) (K x) (cellAt x))
    ∗ bigSep Finset.univ fun x : Cell => reached ER (cellAt x) 0)

instance records_persistent (K : Cell → ℕ) : BI.Persistent (records X K) := by unfold records; infer_instance

theorem ctx_intro (K : Cell → ℕ) : iprop(records X K ∗ levAts L lv) ⊢ ctx X K := by
  unfold records ctx
  iintro ⟨⟨H1, H2⟩, H3⟩
  isplitl [H1]; · iexact H1
  isplitl [H2] <;> iassumption

def G' (c : Dev nD) : sProp 𝕄 := iprop(∃ K, records X K ∗ poss c ∗ payToks c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Option (DmaSem sig) => iprop(∃ κ : ℕ, cellInv ER (sched X) κ (cellAt (c, i))))
          ∗ (bigSep Finset.univ fun i : Option (DmaSem sig) => iprop(atPos ER (cellAt (c, i)) 0 ∅ 0 ∗ reached ER (cellAt (c, i)) 0)) ∗ toks c) : sProp 𝕄)
      ⊢ bigSep Finset.univ (G' X) := by
  rw [bigSep_sep', bigSep_sep', ← bigSep_univ_prod (fun x : Cell => iprop(∃ κ : ℕ, cellInv ER (sched X) κ (cellAt x))),
    bigSep_congr (s := Finset.univ) (fun (c : Dev nD) _ => bigSep_sep' Finset.univ (fun i : Option (DmaSem sig) => (atPos ER (cellAt (c, i)) 0 ∅ 0 : sProp 𝕄)) (fun i => reached ER (cellAt (c, i)) 0)),
    bigSep_sep', ← bigSep_univ_prod (fun x : Cell => (reached ER (cellAt x) 0 : sProp 𝕄))]
  iintro ⟨HI, ⟨Hat, #HR⟩, Htok⟩
  ihave HK := (BI.bigSep_exists_pi Finset.univ (fun (x : Cell) (κ : ℕ) => (cellInv ER (sched X) κ (cellAt x) : sProp 𝕄))) $$ HI
  icases HK with ⟨%K, #HI⟩
  ihave Htk := (toks_around (F := F)) $$ Htok
  iapply (with_persistent (R := records X K) (Φ := fun c : Dev nD => iprop(poss c ∗ payToks c)) fun c _ => show _ ⊢ G' X c from by
    unfold G'
    iintro ⟨HR, Hp⟩
    iexists K
    isplitl [HR] <;> iassumption)
  isplitr
  · unfold records; isplitl; · iexact HI
    iexact HR
  · rw [bigSep_sep']
    isplitl [Hat]
    · rw [show (poss : Dev nD → sProp 𝕄) = fun c : Dev nD => bigSep Finset.univ fun i : Option (DmaSem sig) => atPos ER (cellAt (c, i)) 0 ∅ 0 from
        funext fun c => by unfold poss; rw [bigSep_option]]
      iexact Hat
    iexact Htk

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credits -/

/-- The remote copies a list of steps starts. -/
def sends : List Op → List (RCh × Fin 8)
  | [] => []
  | .rs ch k :: l => (ch, k) :: sends l
  | _ :: l => sends l

theorem owed_creds (c : Dev nD) : (l : List Op) → (Pipeline.launchCred (fun d => owed d l) c : sProp 𝕄)
    ⊢ bigSepL (sends l) fun a => cred (tallyAt (dcell c (rsem a.1 a.2)) () (units (.r a.1 a.2)))
  | [] => Entails.of_eq (Pipeline.launchCred_zero c)
  | o :: l => by
    have ih := owed_creds c l
    cases o with
    | rs ch k =>
      show (Pipeline.launchCred (fun d => owed d l + tallyAt (dcell (peer d ch) (rsem ch k)) () (units (.r ch k))) c : sProp 𝕄) ⊢ _
      rw [Pipeline.launchCred_add]
      show _ ⊢ bigSepL ((ch, k) :: sends l) _
      rw [bigSepL_cons']
      have h1 := Pipeline.launchCred_tallyAt (τ := τ) (Val := Elt F) (Name := ℕ) (U := UU) (Lvl := ℕ) (.dma (rsem ch k)) (fun d => peer d ch) (fun d => peer d ch) (fun d => peer_peer d ch) (fun d => peer_peer d ch) ()
        (units (.r ch k)) c
      iintro ⟨H, H'⟩
      isplitl [H']
      · iapply h1; iexact H'
      · iapply ih; iexact H
    | ls ch k => exact ih
    | lw ch k => exact ih
    | rw ch k => exact ih
    | sw ch k => exact ih
    | castA k => exact ih
    | addR k => exact ih

theorem creds (c : Dev nD) : (Pipeline.launchCred O₀ c : sProp 𝕄) ⊢ credsOf c := by
  have hX := Pipeline.launchCred_tallyAt (τ := τ) (Val := Elt F) (Name := ℕ) (U := UU) (Lvl := ℕ) (.reg bar) xp xp xp_xp xp_xp () 1 c
  have hY := Pipeline.launchCred_tallyAt (τ := τ) (Val := Elt F) (Name := ℕ) (U := UU) (Lvl := ℕ) (.reg bar) yp yp yp_yp yp_yp () 1 c
  have hZ := Pipeline.launchCred_tallyAt (τ := τ) (Val := Elt F) (Name := ℕ) (U := UU) (Lvl := ℕ) (.reg bar) zp zp zp_zp zp_zp () 1 c
  have h3 : iprop(cred (tallyAt (bcell c) () 1) ∗ cred (tallyAt (bcell c) () 1) ∗ cred (tallyAt (bcell c) () 1))
      ⊢ (cred (tallyAt (bcell c) () 3) : sProp 𝕄) := by
    rw [show (tallyAt (bcell c) () 3 : CellTallies nD τ sig Unit) = tallyAt (bcell c) () 1 + (tallyAt (bcell c) () 1 + tallyAt (bcell c) () 1) from by
      rw [show (3 : ℕ) = 1 + (1 + 1) from rfl, tallyAt_add, tallyAt_add]]
    exact (sep_mono_right (cred_add _ _).2).trans (cred_add _ _).2
  have hO : (Pipeline.launchCred O₀ c : sProp 𝕄) = iprop(((Pipeline.launchCred (fun d => owed d steps) c ∗ Pipeline.launchCred (fun d => tallyAt (bcell (zp d)) () 1) c)
      ∗ Pipeline.launchCred (fun d => tallyAt (bcell (yp d)) () 1) c) ∗ Pipeline.launchCred (fun d => tallyAt (bcell (xp d)) () 1) c) := by
    rw [← Pipeline.launchCred_add, ← Pipeline.launchCred_add, ← Pipeline.launchCred_add]; rfl
  rw [hO]
  unfold credsOf
  rw [bigSep_univ_eq_bigSepL (sends steps) (by decide +kernel) (by decide +kernel)]
  iintro ⟨⟨⟨Hs, Hz⟩, Hy⟩, Hx⟩
  isplitl [Hz Hy Hx]
  · iapply h3
    isplitl [Hx]; · iapply hX; iexact Hx
    isplitl [Hy]; · iapply hY; iexact Hy
    iapply hZ; iexact Hz
  iapply (owed_creds c steps); iexact Hs

end Cert.AllReduce

end
-- ==== Proof.BodyEq.lean ====
/-
# The printed body is the list of steps

By unfolding: the printed body and `body` are the same program.
-/
module

public import proofs.«01_k».proof.Proof.Body

@[expose] public section

noncomputable section

namespace Cert.AllReduce

open Cert.KernelIdeal
open Idealize.ShloMosaic Idealize.ShloMosaic.TcCoe
open Idealize.SL Idealize.SL.Sem

variable {F : FTy → Type} [FloatOps F]

set_option maxRecDepth 65536 in
set_option maxHeartbeats 4000000 in
theorem body_eq (t : Fin cfg0.N) : Gen.bodyAt0 (F := F) t = body := rfl

end Cert.AllReduce

end
-- ==== Proof.Run.lean ====
/-
# The run of the whole machine

The launch's theorem at this kernel: every run ends, each device's result is its table, its argument is what it was, and
every semaphore is at zero.
-/
module

public import proofs.«01_k».proof.Proof.Launch
public import proofs.«01_k».proof.Proof.BodyEq
public import proofs.«01_k».proof.Proof.Gen.KernelIdeal.Points
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The devices' arguments. -/
abbrev args (c : Dev nD) : S8192x1024.Idx → Elt F .f32 := m ((c : Thread nD τ).loc main_arg0)

def start (c : Dev nD) : sProp 𝕄 :=
  iprop(G' (args m) c ∗ credsOf c ∗ levAts L lv ∗ (((c : Thread nD τ).loc main_arg0) ↦{fullShare} args m c) ∗ freeBuf c main_v1)

def Φ₀ (c : Dev nD) : sProp 𝕄 := iprop(start m c ∗ scratch c)

def ends (c : Dev nD) : sProp 𝕄 :=
  iprop((((c : Thread nD τ).loc main_arg0) ↦{fullShare} args m c) ∗ (((c : Thread nD τ).loc main_v1) ↦{fullShare} tab (oT (args m) c)))

def Φ₁ (c : Dev nD) : sProp 𝕄 :=
  iprop(ends m c ∗ scratch c ∗ (bigSep Finset.univ fun i : DmaSem sig => semVal (dcell c i) 0) ∗ semVal (bcell c) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem sound (c : Dev nD) (Ψ : PUnit.{1} → sProp 𝕄) :
    iprop(Φ₀ m c ∗ owesE c (O₀ c) ∗ (Φ₁ m c -∗ owesE c 0 -∗ Ψ ⟨⟩)) ⊢ runs c body Ψ := by
  unfold Φ₀ start G'
  iintro ⟨⟨⟨⟨%K, #HR, Hp, Ht⟩, Hc, #HL, Hx, Hv⟩, Hs⟩, HO, Hk⟩
  iapply (sound_body (args m) K c Ψ)
  unfold bodyPre
  isplitl [Hp Ht Hc Hx Hv Hs HO]
  · isplitr
    · iapply (ctx_intro (args m) K)
      isplitl <;> iassumption
    isplitl [Hp]; · iexact Hp
    isplitl [Ht]; · iexact Ht
    isplitl [Hc]; · iexact Hc
    isplitl [Hx Hv Hs]
    · isplitl [Hx]; · iexact Hx
      isplitl [Hv] <;> iassumption
    iexact HO
  unfold bodyPost Φ₁ ends
  iintro ⟨⟨Hx, Hv, Hs⟩, Hz, Hb, HO⟩
  iapply Hk $$ [Hx Hv Hs Hz Hb]
  · isplitl [Hx Hv]
    · isplitl [Hx] <;> iassumption
    isplitl [Hs]; · iexact Hs
    isplitl [Hz] <;> iassumption
  iexact HO

theorem owesAt_first (c : Dev nD) : (dats m 0 c).owesAt () (t0_0).castSucc ⊢ (owesE c (O₀ c) : sProp 𝕄) := by
  unfold Dat.owesAt Pipeline.owesWithin owesE
  iintro ⟨%W, -, H⟩
  iexists W; iexact H

theorem owesAt_last (c : Dev nD) : (owesE c 0 : sProp 𝕄) ⊢ (dats m 0 c).owesAt () (t0_0).succ := by
  unfold Dat.owesAt Pipeline.owesWithin owesE
  iintro ⟨%W, H⟩
  iexists W
  isplitr; · ipureintro; exact fun _ _ => Or.inl trivial
  iexact H

theorem body_obligation (c : Dev nD) : BodyObligation (dats (F := F) m 0 c) (defs₀ (F := F)) 𝒱₀ () Set.univ := fun t => by
  rw [fin_N0 t]
  rw [show (Finset.univ : Finset (Fin cfg0.W)) = ∅ from rfl, BI.bigSep_empty, BI.bigSep_empty]
  show iprop(Φ₀ m c ∗ (dats m 0 c).owesAt () (t0_0).castSucc ∗ emp) ⊢ wp frame (wpE (defs₀ (F := F)) 𝒱₀ c none) Set.univ (bodyAt0 (F := F) t0_0)
    fun _ => iprop(Φ₁ m c ∗ (dats m 0 c).owesAt () (t0_0).succ ∗ emp)
  rw [body_eq]
  iintro ⟨H, HO, -⟩
  iapply (sound m c fun _ => iprop(Φ₁ m c ∗ (dats m 0 c).owesAt () (t0_0).succ ∗ emp))
  isplitl [H]; · iexact H
  isplitl [HO]; · iapply (owesAt_first m c); iexact HO
  iintro H HO
  isplitl [H]; · iexact H
  isplitl [HO]; · iapply (owesAt_last m c); iexact HO
  iempintro

/-! ## The theorem's side conditions -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (args m) c)
      ⊢ |={Set.univ}=> iprop(start m c ∗ emp) := by
  rw [Pipeline.unscopedRestP_none, unscopedRest0_eq]
  iintro ⟨⟨Hx, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop((ends m c ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch
  iintro ⟨He, Hs, Hz, Hb⟩
  isplitl [He Hb]
  · isplitl [He] <;> iassumption
  isplitl [Hz] <;> iassumption

theorem waits (c : Dev nD) : (levAts L lv : sProp 𝕄) ⊢ Pipeline.cellsWaits cfgs (dats m) () 0 c :=
  Pipeline.cellsWaits_intro cfgs (dats m) () 0 c fun w s t => w.elim0

/-- What is read of device `c` at the end. -/
def QY (c : Dev nD) (s : MemSt nD τ sig (Elt F)) : Prop :=
  (s.mem ((c : Thread nD τ).loc main_arg0) = args m c ∧ s.mem ((c : Thread nD τ).loc main_v1) = tab (oT (args m) c))
    ∧ ∀ sm : SemLoc sig, sm.isScoped .tc = false → s.sem ((c.tc : Thread nD τ), sm) = 0

theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [BI.bigSep_singleton] at h
  iintro H
  ihave H := h $$ H
  icases H with ⟨%hm, H⟩
  isplitr; · ipureintro; exact hm () (Finset.mem_singleton_self _)
  iexact H

theorem read_end (c : Dev nD) (s' : Phys nD τ sig (Elt F)) :
    iprop((ends m c ∗ unscopedSems0 c) ∗ emp ∗ SI s') ⊢ |={Set.univ}=> (iprop(⌜QY m c s'.mem⌝ ∗ SI s') : sProp 𝕄) := by
  unfold ends
  iintro ⟨⟨⟨Hx, Hv⟩, Hu⟩, -, HSI⟩
  ihave H := (read_one (F := F) _ _ s') $$ [Hx HSI]
  · isplitl [Hx]; · iexact Hx
    iexact HSI
  icases H with ⟨%hx, HSI⟩
  ihave H := (read_one (F := F) _ _ s') $$ [Hv HSI]
  · isplitl [Hv]; · iexact Hv
    iexact HSI
  icases H with ⟨%hv, HSI⟩
  imod (Pipeline.unscopedSems0_read (X := unscopedSems0 c) (c := c) fupd_intro s') $$ [Hu HSI] with H
  · isplitl [Hu] <;> iassumption
  icases H with ⟨%hu, HSI⟩
  imodintro
  isplitr; · ipureintro; exact ⟨⟨hx, hv⟩, hu⟩
  iexact HSI

/-! ## The run -/

set_option maxRecDepth 8000 in
/-- For any float values, from any memory with zero counters, every weakly fair execution of the sixteen devices' @main
    ends with each device's result at its table, its argument unchanged and every semaphore counter at zero. -/
theorem run_main : θ_run defs (onTc (τ := τ) (main (F := F))) ⟨m, fun _ => 0, ρ⟩ (fun r =>
    (∀ c : Dev nD, r.2.mem ((c : Thread nD τ).loc main_arg0) = args m c ∧ r.2.mem ((c : Thread nD τ).loc main_v1) = tab (oT (args m) c))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (args m)) (G' := G' (args m)) (u₀ := u₀)
    (hu₀ := by
      unfold u₀
      iintro Hu
      ihave H := (ownU_pair _ _) $$ Hu
      icases H with ⟨HP, HX⟩
      imod (fund_all (args m)) $$ HX with HG
      imodintro
      isplitl [HP] <;> iassumption)
    (hglob := glob (args m))
    (hA := fun _ w => w.elim0) (hpf := fun _ k => k.elim0)
    (X := start m) (Y := fun c => iprop(ends m c ∗ unscopedSems0 c)) (Z := fun _ => iprop(emp))
    (hX := start_intro m ρ) (hin := phi0_intro m) (hout := phi1_exit m)
    (QY := QY m) (hY := read_end m)
    (hQ := fun _ h hs => ⟨fun c => (h c).2.2.1, sem_eq_zero hs fun c => (h c).2.2.2⟩)

end Cert.AllReduce

end
-- ==== Proof.Value.lean ====
/-
# The value: the kernel's table is the reference's sum

Over the reals a cast between float formats is the identity. So the table at a row and a column is the sum of two
elements of the whole array: the ones that lie at that row and column in its upper and in its lower half. The
reference's value at that index is the same sum.
-/
module

public import proofs.«01_k».proof.Proof.Contents
public import proofs.«01_k».proof.Proof.Gen.ReferenceIdeal.Run
public import Idealize.ShloMosaic.Lib.Layout
public import Idealize.ShloMosaic.Lib.Pointwise

@[expose] public section

noncomputable section

namespace Cert.AllReduce

open Cert.KernelIdeal
open Idealize.ShloMosaic

/-- The half of the whole array that a device holds: its coordinate on the mesh's first axis. -/
def half (c : Dev nD) : ℕ := c.val / 8

theorem half_le (c : Dev nD) : half c ≤ 1 := by revert c; decide
theorem half_xp (c : Dev nD) : half (xp c) = 1 - half c := by revert c; decide
theorem q_own (c : Dev nD) (p : Fin 4) : q (own c p) = p := by revert c p; decide
theorem meshBlock_rows (c : Dev nD) : ((Layout.meshBlock [2, 2, 4] (![[0], []] : Fin 2 → List ℕ) c) 0).val = half c := by
  revert c; decide
theorem meshBlock_cols (c : Dev nD) : ((Layout.meshBlock [2, 2, 4] (![[0], []] : Fin 2 → List ℕ) c) 1).val = 0 := by
  revert c; decide

/-- The element of the whole array at row `r` of half `h`, column `j`. -/
def wT (W : Cert.ReferenceIdeal.S16384x1024.Idx → EReal) (h : ℕ) (r : Fin 8192) (j : Fin 1024) : EReal :=
  W (fun | 0 => ⟨(h * 8192 + r.val) % 16384, Nat.mod_lt _ (by decide)⟩ | 1 => j)

variable (X : Dev nD → S8192x1024.Idx → Elt Ideal .f32) (W : Cert.ReferenceIdeal.S16384x1024.Idx → EReal)

/-- Each device's argument is its block of the whole array. -/
def Blocks : Prop :=
  ∀ c : Dev nD, X c = Layout.blockN ⟨2, ![8192, 1024]⟩ ⟨2, ![16384, 1024]⟩ (Layout.meshBlock [2, 2, 4] ![[0], []] c) W

variable {X W}

/-- A device's element is the whole array's at its half. -/
theorem xT_whole (hX : Blocks X W) (c : Dev nD) (r : Fin 8192) (j : Fin 1024) : xT X c r.val j.val = wT W (half c) r j := by
  have hc := half_le c
  have h0 := meshBlock_rows c
  have h1 := meshBlock_cols c
  unfold xT wT
  rw [hX c, Layout.blockN_apply]
  refine congrArg W (funext fun a => Fin.ext ?_)
  rw [Layout.TilesN.idx_val]
  match a with
  | 0 =>
    show ((Layout.meshBlock [2, 2, 4] (![[0], []] : Fin 2 → List ℕ) c) 0).val * 8192 + r.val % 8192 = (half c * 8192 + r.val) % 16384
    rw [h0]; omega
  | 1 =>
    show ((Layout.meshBlock [2, 2, 4] (![[0], []] : Fin 2 → List ℕ) c) 1).val * 1024 + j.val % 1024 = j.val
    rw [h1]; omega

/-- The kernel's table at a row and a column: the two halves' elements there, added. -/
theorem oT_whole (hX : Blocks X W) (c : Dev nD) (r : Fin 8192) (j : Fin 1024) :
    oT X c r.val j.val = wT W 0 r j + wT W 1 r j := by
  have hr : r.val / 2048 % 4 * 2048 + r.val % 2048 = r.val := by omega
  unfold oT sT aT
  simp only [Ideal.truncf_def, Ideal.extf_def, Ideal.addf_def, q_xp, q_own, hr]
  rw [xT_whole hX, xT_whole hX, half_xp]
  obtain h | h : half (own c ⟨r.val / 2048 % 4, Nat.mod_lt _ (by decide)⟩) = 0 ∨ half (own c ⟨r.val / 2048 % 4, Nat.mod_lt _ (by decide)⟩) = 1 := by
    have := half_le (own c ⟨r.val / 2048 % 4, Nat.mod_lt _ (by decide)⟩); omega
  · rw [h]
  · rw [h]; exact add_comm _ _

open Cert.ReferenceIdeal.Gen in
/-- The reference's value, as its operations compose it. -/
abbrev refVal (W : Cert.ReferenceIdeal.S16384x1024.Idx → Elt Ideal .f32) : Cert.ReferenceIdeal.S8192x1024.Idx → Elt Ideal .bf16 :=
  truncf (F := Ideal) .bf16 (Host.reduceAdd (F := Ideal) (φ := .f32) (shapeCast _ W shapeCasts_S16384x1024_S2x8192x1024)
    (constant Cert.ReferenceIdeal.S_ .f32 0x00000000#32) reducesTo_S2x8192x1024_S8192x1024_d0 h_S_) bitsLt_bf16_f32

/-- The reference's value at an index: the same two elements, added. -/
theorem refVal_eq (i : Cert.ReferenceIdeal.S8192x1024.Idx) : refVal W i = wT W 0 (i 0) (i 1) + wT W 1 (i 0) (i 1) := by
  have h0 : (i 0).val < 8192 := (i 0).isLt
  unfold refVal
  pointwise
  rw [Fin.sum_univ_two]
  unfold wT
  refine congrArg₂ (· + ·) (congrArg W (funext fun a => Fin.ext ?_)) (congrArg W (funext fun a => Fin.ext ?_))
  · match a with
    | 0 => show 0 * 8192 + (i 0).val = (0 * 8192 + (i 0).val) % 16384; omega
    | 1 => rfl
  · match a with
    | 0 => show 1 * 8192 + (i 0).val = (1 * 8192 + (i 0).val) % 16384; omega
    | 1 => rfl

/-- So each device's table is the reference's value. -/
theorem tab_whole (hX : Blocks X W) (c : Dev nD) : tab (oT X c) = refVal W :=
  funext fun i => (oT_whole hX c (i 0) (i 1)).trans (refVal_eq i).symm

end Cert.AllReduce

end
-- ==== Proof.lean ====
/-
# The proof of `Cert.Claim`

Both kernels' frames and the value come from one run of the kernel, proved for any float values (`Proof/Run.lean`). The
reference's frame and value come from its own run. What is left for the value is that the kernel's table is the
reference's sum (`Proof/Value.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, keeps its argument and ends with every counter at zero. -/
theorem frame_kernel : Cert.quiescent_Kernel := fun m ρ _ =>
  (θ_run Cert.KernelIdeal.defs _ _).mono (fun _ h => ⟨fun c => (h.1 c).1, h.2⟩) (Cert.AllReduce.run_main (F := Bits) m ρ)

/-- So does its idealization, the same text over the reals. -/
theorem frame_kernelIdeal : Cert.quiescent_KernelIdeal := fun m ρ _ =>
  (θ_run Cert.KernelIdeal.defs _ _).mono (fun _ h => ⟨fun c => (h.1 c).1, h.2⟩) (Cert.AllReduce.run_main (F := Ideal) m ρ)

/-- So does the reference, which has no semaphore at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's value: the two halves of the whole array, added. -/
theorem algebraic : Cert.algebraic_KernelIdeal_ReferenceIdeal := fun m ρ m' ρ' _ hagree =>
  ⟨Cert.AllReduce.refVal (m' (((0 : Dev Cert.ReferenceIdeal.nD).tc : Thread _ Cert.ReferenceIdeal.τ).loc Cert.ReferenceIdeal.main_arg0)),
    (θ_run Cert.KernelIdeal.defs _ _).mono
      (fun _ h c => ⟨(h.1 c).2.trans (Cert.AllReduce.tab_whole (X := Cert.AllReduce.args m) hagree c), (h.1 c).1⟩)
      (Cert.AllReduce.run_main (F := Ideal) m ρ),
    (θ_run Cert.ReferenceIdeal.defs _ _).mono (fun _ h => h 0) (Cert.ReferenceIdeal.Value.run (F := Ideal) m' ρ')⟩

/-- Everything claimed. No operation was rewritten, so that part is trivial. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
